-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_v273) = v2 c
          ∧ r.2.mem ((c.tc : Thread Cert.ReferenceIdeal.nD Cert.ReferenceIdeal.τ).loc Cert.ReferenceIdeal.main_v277) = v3 c
          ∧ r.2.mem ((c.tc : Thread Cert.ReferenceIdeal.nD Cert.ReferenceIdeal.τ).loc Cert.ReferenceIdeal.main_v258) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S8x2048x1 : Shape := ⟨3, ![8, 2048, 1]⟩
abbrev S32x1024 : Shape := ⟨2, ![32, 1024]⟩
abbrev S2x1024 : Shape := ⟨2, ![2, 1024]⟩
abbrev S2x1024x3072 : Shape := ⟨3, ![2, 1024, 3072]⟩
abbrev S2x1024x1024 : Shape := ⟨3, ![2, 1024, 1024]⟩
abbrev S2x1024x8 : Shape := ⟨3, ![2, 1024, 8]⟩
abbrev S2x8x1024x1024 : Shape := ⟨4, ![2, 8, 1024, 1024]⟩
abbrev S1024x1 : Shape := ⟨2, ![1024, 1]⟩
abbrev S1 : Shape := ⟨1, ![1]⟩
abbrev S1024x8 : Shape := ⟨2, ![1024, 8]⟩
abbrev S8 : Shape := ⟨1, ![8]⟩
abbrev S1024x32 : Shape := ⟨2, ![1024, 32]⟩
abbrev S32 : Shape := ⟨1, ![32]⟩
abbrev S1024x64 : Shape := ⟨2, ![1024, 64]⟩
abbrev S64 : Shape := ⟨1, ![64]⟩
abbrev S_ : Shape := ⟨0, ![]⟩

class Facts : Prop where
  bcast_S_S2x1024 : S_.BroadcastsInDim S2x1024 (![] : Fin 0 → Fin S2x1024.rank)
  bcast_S_S2x1024x3072 : S_.BroadcastsInDim S2x1024x3072 (![] : Fin 0 → Fin S2x1024x3072.rank)
  bcast_S_S2x1024x8 : S_.BroadcastsInDim S2x1024x8 (![] : Fin 0 → Fin S2x1024x8.rank)

variable [Facts]

def fn {F : FTy → Type} [FloatOps F] (main_arg0 : FVec F S8x2048x1 .f32) (main_arg1 : FVec F S32x1024 .f32) (main_arg2 : FVec F S32x1024 .f32) (main_arg3 : FVec F S2x1024 .f32) (main_arg4 : FVec F S2x1024x3072 .f32) (main_arg5 : FVec F S2x1024x1024 .f32) (main_arg6 : FVec F S2x1024 .f32) (main_arg7 : FVec F S2x1024x8 .f32) (main_arg8 : FVec F S2x8x1024x1024 .f32) (main_arg9 : FVec F S2x8x1024x1024 .f32) (main_arg10 : FVec F S1024x1 .f32) (main_arg11 : FVec F S1 .f32) (main_arg12 : FVec F S1024x8 .f32) (main_arg13 : FVec F S8 .f32) (main_arg14 : FVec F S1024x32 .f32) (main_arg15 : FVec F S32 .f32) (main_arg16 : FVec F S1024x64 .f32) (main_arg17 : FVec F S64 .f32) : IVec S2x1024 1 × IVec S2x1024x3072 1 × IVec S2x1024 1 × IVec S2x1024x8 1 :=
  let main_v0 : FVec F S2x1024 .f32 := Host.absf main_arg3
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024x3072 .f32 := Host.absf main_arg4
  let main_cst_0 : FVec F S_ .f32 := constant S_ .f32 0x7F800000#32
  let main_v4 : FVec F S2x1024x3072 .f32 := broadcastInDim S2x1024x3072 ![] bcast_S_S2x1024x3072 main_cst_0
  let main_v5 : IVec S2x1024x3072 1 := cmpf .olt main_v3 main_v4
  let main_v6 : FVec F S2x1024 .f32 := Host.absf main_arg6
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024x8 .f32 := Host.absf main_arg7
  let main_cst_2 : FVec F S_ .f32 := constant S_ .f32 0x7F800000#32
  let main_v10 : FVec F S2x1024x8 .f32 := broadcastInDim S2x1024x8 ![] bcast_S_S2x1024x8 main_cst_2
  let main_v11 : IVec S2x1024x8 1 := cmpf .olt main_v9 main_v10
  (main_v2, main_v5, main_v8, main_v11)
-- ==== Kernel.lean ====
abbrev S8x2048x1 : Shape := ⟨3, ![8, 2048, 1]⟩
abbrev S32x1024 : Shape := ⟨2, ![32, 1024]⟩
abbrev S2x1024 : Shape := ⟨2, ![2, 1024]⟩
abbrev S2x1024x3072 : Shape := ⟨3, ![2, 1024, 3072]⟩
abbrev S2x1024x1024 : Shape := ⟨3, ![2, 1024, 1024]⟩
abbrev S2x1024x8 : Shape := ⟨3, ![2, 1024, 8]⟩
abbrev S2x8x1024x1024 : Shape := ⟨4, ![2, 8, 1024, 1024]⟩
abbrev S1024x1 : Shape := ⟨2, ![1024, 1]⟩
abbrev S1 : Shape := ⟨1, ![1]⟩
abbrev S1024x8 : Shape := ⟨2, ![1024, 8]⟩
abbrev S8 : Shape := ⟨1, ![8]⟩
abbrev S1024x32 : Shape := ⟨2, ![1024, 32]⟩
abbrev S32 : Shape := ⟨1, ![32]⟩
abbrev S1024x64 : Shape := ⟨2, ![1024, 64]⟩
abbrev S64 : Shape := ⟨1, ![64]⟩
abbrev S512x32 : Shape := ⟨2, ![512, 32]⟩
abbrev S8x64x1 : Shape := ⟨3, ![8, 64, 1]⟩
abbrev S8x64x8 : Shape := ⟨3, ![8, 64, 8]⟩
abbrev S8x64x32 : Shape := ⟨3, ![8, 64, 32]⟩
abbrev S8x64x64 : Shape := ⟨3, ![8, 64, 64]⟩
abbrev S1024x3072 : Shape := ⟨2, ![1024, 3072]⟩
abbrev S1024x1024 : Shape := ⟨2, ![1024, 1024]⟩
abbrev S3x1024x1024 : Shape := ⟨3, ![3, 1024, 1024]⟩
abbrev S_ : Shape := ⟨0, ![]⟩
abbrev S3 : Shape := ⟨1, ![3]⟩
abbrev S1x1024x3072 : Shape := ⟨3, ![1, 1024, 3072]⟩
abbrev S1x1024x1024 : Shape := ⟨3, ![1, 1024, 1024]⟩
abbrev S1x1x1024x1024 : Shape := ⟨4, ![1, 1, 1024, 1024]⟩
abbrev S512x1024 : Shape := ⟨2, ![512, 1024]⟩
abbrev S512x512 : Shape := ⟨2, ![512, 512]⟩
abbrev S512x8 : Shape := ⟨2, ![512, 8]⟩
abbrev S512x160 : Shape := ⟨2, ![512, 160]⟩
abbrev S1x8 : Shape := ⟨2, ![1, 8]⟩
abbrev S1x1024 : Shape := ⟨2, ![1, 1024]⟩
abbrev S512 : Shape := ⟨1, ![512]⟩
abbrev S512x1 : Shape := ⟨2, ![512, 1]⟩
abbrev S512x3072 : Shape := ⟨2, ![512, 3072]⟩
abbrev S512x64 : Shape := ⟨2, ![512, 64]⟩
abbrev S1x1024x8 : Shape := ⟨3, ![1, 1024, 8]⟩
abbrev S160x1024 : Shape := ⟨2, ![160, 1024]⟩
abbrev S1x1 : Shape := ⟨2, ![1, 1]⟩
abbrev S1x32 : Shape := ⟨2, ![1, 32]⟩
abbrev S1x64 : Shape := ⟨2, ![1, 64]⟩

abbrev nBuf : Space → Nat
  | .hbm => 24
  | .vmem => 23
  | .smem => 0
  | _ => 0

abbrev bufTy : (tb : Table) → Fin (tcTables nBuf tb) → BufTy
  | .hbm, ⟨0, _⟩ => ⟨S8x2048x1, .f32⟩
  | .hbm, ⟨1, _⟩ => ⟨S32x1024, .f32⟩
  | .hbm, ⟨2, _⟩ => ⟨S32x1024, .f32⟩
  | .hbm, ⟨3, _⟩ => ⟨S2x1024, .f32⟩
  | .hbm, ⟨4, _⟩ => ⟨S2x1024x3072, .f32⟩
  | .hbm, ⟨5, _⟩ => ⟨S2x1024x1024, .f32⟩
  | .hbm, ⟨6, _⟩ => ⟨S2x1024, .f32⟩
  | .hbm, ⟨7, _⟩ => ⟨S2x1024x8, .f32⟩
  | .hbm, ⟨8, _⟩ => ⟨S2x8x1024x1024, .f32⟩
  | .hbm, ⟨9, _⟩ => ⟨S2x8x1024x1024, .f32⟩
  | .hbm, ⟨10, _⟩ => ⟨S1024x1, .f32⟩
  | .hbm, ⟨11, _⟩ => ⟨S1, .f32⟩
  | .hbm, ⟨12, _⟩ => ⟨S1024x8, .f32⟩
  | .hbm, ⟨13, _⟩ => ⟨S8, .f32⟩
  | .hbm, ⟨14, _⟩ => ⟨S1024x32, .f32⟩
  | .hbm, ⟨15, _⟩ => ⟨S32, .f32⟩
  | .hbm, ⟨16, _⟩ => ⟨S1024x64, .f32⟩
  | .hbm, ⟨17, _⟩ => ⟨S64, .f32⟩
  | .hbm, ⟨18, _⟩ => ⟨S512x32, .f32⟩
  | .hbm, ⟨19, _⟩ => ⟨S8x64x1, .f32⟩
  | .hbm, ⟨20, _⟩ => ⟨S8x64x8, .f32⟩
  | .hbm, ⟨21, _⟩ => ⟨S8x64x32, .f32⟩
  | .hbm, ⟨22, _⟩ => ⟨S8x64x64, .f32⟩
  | .hbm, ⟨23, _⟩ => ⟨S8, .f32⟩
  | .local _ .vmem, ⟨0, _⟩ => ⟨S512x32, .f32⟩
  | .local _ .vmem, ⟨1, _⟩ => ⟨S32x1024, .f32⟩
  | .local _ .vmem, ⟨2, _⟩ => ⟨S32x1024, .f32⟩
  | .local _ .vmem, ⟨3, _⟩ => ⟨S2x1024, .f32⟩
  | .local _ .vmem, ⟨4, _⟩ => ⟨S2x1024, .f32⟩
  | .local _ .vmem, ⟨5, _⟩ => ⟨S2x1024x8, .f32⟩
  | .local _ .vmem, ⟨6, _⟩ => ⟨S1024x1, .f32⟩
  | .local _ .vmem, ⟨7, _⟩ => ⟨S1, .f32⟩
  | .local _ .vmem, ⟨8, _⟩ => ⟨S1024x8, .f32⟩
  | .local _ .vmem, ⟨9, _⟩ => ⟨S8, .f32⟩
  | .local _ .vmem, ⟨10, _⟩ => ⟨S1024x32, .f32⟩
  | .local _ .vmem, ⟨11, _⟩ => ⟨S32, .f32⟩
  | .local _ .vmem, ⟨12, _⟩ => ⟨S1024x64, .f32⟩
  | .local _ .vmem, ⟨13, _⟩ => ⟨S64, .f32⟩
  | .local _ .vmem, ⟨14, _⟩ => ⟨S8x64x1, .f32⟩
  | .local _ .vmem, ⟨15, _⟩ => ⟨S8x64x8, .f32⟩
  | .local _ .vmem, ⟨16, _⟩ => ⟨S8x64x32, .f32⟩
  | .local _ .vmem, ⟨17, _⟩ => ⟨S8x64x64, .f32⟩
  | .local _ .vmem, ⟨18, _⟩ => ⟨S8, .f32⟩
  | .local _ .vmem, ⟨19, _⟩ => ⟨S1024x3072, .f32⟩
  | .local _ .vmem, ⟨20, _⟩ => ⟨S1024x1024, .f32⟩
  | .local _ .vmem, ⟨21, _⟩ => ⟨S3x1024x1024, .f32⟩
  | .local _ .vmem, ⟨22, _⟩ => ⟨S3x1024x1024, .f32⟩
  | _, _ => ⟨S8x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v1_3 : Ref sig .tc := ⟨.hbm, 22, rfl⟩
abbrev main_v1_4 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x64x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x64x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x2048x1 : Shape := ⟨3, ![8, 2048, 1]⟩
abbrev S32x1024 : Shape := ⟨2, ![32, 1024]⟩
abbrev S2x1024 : Shape := ⟨2, ![2, 1024]⟩
abbrev S2x1024x3072 : Shape := ⟨3, ![2, 1024, 3072]⟩
abbrev S2x1024x1024 : Shape := ⟨3, ![2, 1024, 1024]⟩
abbrev S2x1024x8 : Shape := ⟨3, ![2, 1024, 8]⟩
abbrev S2x8x1024x1024 : Shape := ⟨4, ![2, 8, 1024, 1024]⟩
abbrev S1024x1 : Shape := ⟨2, ![1024, 1]⟩
abbrev S1 : Shape := ⟨1, ![1]⟩
abbrev S1024x8 : Shape := ⟨2, ![1024, 8]⟩
abbrev S8 : Shape := ⟨1, ![8]⟩
abbrev S1024x32 : Shape := ⟨2, ![1024, 32]⟩
abbrev S32 : Shape := ⟨1, ![32]⟩
abbrev S1024x64 : Shape := ⟨2, ![1024, 64]⟩
abbrev S64 : Shape := ⟨1, ![64]⟩
abbrev S8x64x32x1 : Shape := ⟨4, ![8, 64, 32, 1]⟩
abbrev S8x64x1x32 : Shape := ⟨4, ![8, 64, 1, 32]⟩
abbrev S8x64x32 : Shape := ⟨3, ![8, 64, 32]⟩
abbrev S8x64x1024 : Shape := ⟨3, ![8, 64, 1024]⟩
abbrev S_ : Shape := ⟨0, ![]⟩
abbrev S1x1024 : Shape := ⟨2, ![1, 1024]⟩
abbrev S1024 : Shape := ⟨1, ![1024]⟩
abbrev S1x1x1024 : Shape := ⟨3, ![1, 1, 1024]⟩
abbrev S8x64 : Shape := ⟨2, ![8, 64]⟩
abbrev S8x64x1 : Shape := ⟨3, ![8, 64, 1]⟩
abbrev S1x1024x3072 : Shape := ⟨3, ![1, 1024, 3072]⟩
abbrev S1024x3072 : Shape := ⟨2, ![1024, 3072]⟩
abbrev S1x1024x1024 : Shape := ⟨3, ![1, 1024, 1024]⟩
abbrev S1024x1024 : Shape := ⟨2, ![1024, 1024]⟩
abbrev S8x64x3072 : Shape := ⟨3, ![8, 64, 3072]⟩
abbrev S8x64x16x64 : Shape := ⟨4, ![8, 64, 16, 64]⟩
abbrev S8x16x64x64 : Shape := ⟨4, ![8, 16, 64, 64]⟩
abbrev S64x64 : Shape := ⟨2, ![64, 64]⟩
abbrev S8x16x64 : Shape := ⟨3, ![8, 16, 64]⟩
abbrev S8x16x64x1 : Shape := ⟨4, ![8, 16, 64, 1]⟩
abbrev S512x1024 : Shape := ⟨2, ![512, 1024]⟩
abbrev S1x1024x8 : Shape := ⟨3, ![1, 1024, 8]⟩
abbrev S1x8x1024x1024 : Shape := ⟨4, ![1, 8, 1024, 1024]⟩
abbrev S8x1024x1024 : Shape := ⟨3, ![8, 1024, 1024]⟩
abbrev S512x8 : Shape := ⟨2, ![512, 8]⟩
abbrev S512 : Shape := ⟨1, ![512]⟩
abbrev S512x1 : Shape := ⟨2, ![512, 1]⟩
abbrev S512x2 : Shape := ⟨2, ![512, 2]⟩
abbrev S512x2x1 : Shape := ⟨3, ![512, 2, 1]⟩
abbrev S1x1x8 : Shape := ⟨3, ![1, 1, 8]⟩
abbrev S512x2x8 : Shape := ⟨3, ![512, 2, 8]⟩
abbrev S2x512x8 : Shape := ⟨3, ![2, 512, 8]⟩
abbrev S2x512 : Shape := ⟨2, ![2, 512]⟩
abbrev S1x1x160 : Shape := ⟨3, ![1, 1, 160]⟩
abbrev S512x2x160 : Shape := ⟨3, ![512, 2, 160]⟩
abbrev S512x8x160 : Shape := ⟨3, ![512, 8, 160]⟩
abbrev S8x160x1024 : Shape := ⟨3, ![8, 160, 1024]⟩
abbrev S1x1x1 : Shape := ⟨3, ![1, 1, 1]⟩
abbrev S8x64x8 : Shape := ⟨3, ![8, 64, 8]⟩
abbrev S1x1x32 : Shape := ⟨3, ![1, 1, 32]⟩
abbrev S8x64x64 : Shape := ⟨3, ![8, 64, 64]⟩
abbrev S1x1x64 : Shape := ⟨3, ![1, 1, 64]⟩

abbrev nBuf : Space → Nat
  | .hbm => 411
  | .vmem => 0
  | .smem => 0
  | _ => 0

abbrev hbmTy0_0 (i : Nat) : BufTy := match i % 128 with
  | 0 => ⟨S8x2048x1, .f32⟩
  | 1 => ⟨S32x1024, .f32⟩
  | 2 => ⟨S32x1024, .f32⟩
  | 3 => ⟨S2x1024, .f32⟩
  | 4 => ⟨S2x1024x3072, .f32⟩
  | 5 => ⟨S2x1024x1024, .f32⟩
  | 6 => ⟨S2x1024, .f32⟩
  | 7 => ⟨S2x1024x8, .f32⟩
  | 8 => ⟨S2x8x1024x1024, .f32⟩
  | 9 => ⟨S2x8x1024x1024, .f32⟩
  | 10 => ⟨S1024x1, .f32⟩
  | 11 => ⟨S1, .f32⟩
  | 12 => ⟨S1024x8, .f32⟩
  | 13 => ⟨S8, .f32⟩
  | 14 => ⟨S1024x32, .f32⟩
  | 15 => ⟨S32, .f32⟩
  | 16 => ⟨S1024x64, .f32⟩
  | 17 => ⟨S64, .f32⟩
  | 18 => ⟨S8x64x32x1, .f32⟩
  | 19 => ⟨S8x64x1x32, .f32⟩
  | 20 => ⟨S8x64x32, .f32⟩
  | 21 => ⟨S8x64x1024, .f32⟩
  | 22 => ⟨S8x64x1024, .f32⟩
  | 23 => ⟨S8x64x1024, .f32⟩
  | 24 => ⟨S_, .f32⟩
  | 25 => ⟨S8x64x1024, .f32⟩
  | 26 => ⟨S8x64x1024, .f32⟩
  | 27 => ⟨S_, .f32⟩
  | 28 => ⟨S8x64x1024, .f32⟩
  | 29 => ⟨S8x64x1024, .f32⟩
  | 30 => ⟨S8x64x1024, .f32⟩
  | 31 => ⟨S8x64x1024, .f32⟩
  | 32 => ⟨S8x64x1024, .f32⟩
  | 33 => ⟨S_, .f32⟩
  | 34 => ⟨S8, .f32⟩
  | 35 => ⟨S1x1024, .f32⟩
  | 36 => ⟨S1024, .f32⟩
  | 37 => ⟨S1x1x1024, .f32⟩
  | 38 => ⟨S8x64x1024, .f32⟩
  | 39 => ⟨S8x64x1024, .f32⟩
  | 40 => ⟨S8x64x1024, .f32⟩
  | 41 => ⟨S_, .f32⟩
  | 42 => ⟨S8x64, .f32⟩
  | 43 => ⟨S8x64x1, .f32⟩
  | 44 => ⟨S_, .f32⟩
  | 45 => ⟨S8x64x1, .f32⟩
  | 46 => ⟨S8x64x1, .f32⟩
  | 47 => ⟨S_, .f32⟩
  | 48 => ⟨S8x64x1, .f32⟩
  | 49 => ⟨S8x64x1, .f32⟩
  | 50 => ⟨S8x64x1, .f32⟩
  | 51 => ⟨S8x64x1024, .f32⟩
  | 52 => ⟨S8x64x1024, .f32⟩
  | 53 => ⟨S1x1024x3072, .f32⟩
  | 54 => ⟨S1024x3072, .f32⟩
  | 55 => ⟨S1x1024x1024, .f32⟩
  | 56 => ⟨S1024x1024, .f32⟩
  | 57 => ⟨S8x64x3072, .f32⟩
  | 58 => ⟨S8x64x1024, .f32⟩
  | 59 => ⟨S8x64x1024, .f32⟩
  | 60 => ⟨S8x64x1024, .f32⟩
  | 61 => ⟨S8x64x16x64, .f32⟩
  | 62 => ⟨S8x16x64x64, .f32⟩
  | 63 => ⟨S8x64x16x64, .f32⟩
  | 64 => ⟨S8x16x64x64, .f32⟩
  | 65 => ⟨S8x64x16x64, .f32⟩
  | 66 => ⟨S8x16x64x64, .f32⟩
  | 67 => ⟨S8x16x64x64, .f32⟩
  | 68 => ⟨S8x16x64x64, .f32⟩
  | 69 => ⟨S_, .f32⟩
  | 70 => ⟨S8x16x64x64, .f32⟩
  | 71 => ⟨S8x16x64x64, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S_, .f32⟩
  | 84 => ⟨S_, .f32⟩
  | 85 => ⟨S8x16x64x64, .i1⟩
  | 86 => ⟨S8x16x64x64, .f32⟩
  | 87 => ⟨S8x16x64x64, .f32⟩
  | 88 => ⟨S_, .f32⟩
  | 89 => ⟨S8x16x64, .f32⟩
  | 90 => ⟨S_, .f32⟩
  | 91 => ⟨S8x16x64, .f32⟩
  | 92 => ⟨S8x16x64, .f32⟩
  | 93 => ⟨S8x16x64x1, .f32⟩
  | 94 => ⟨S8x16x64x64, .f32⟩
  | 95 => ⟨S8x16x64x64, .f32⟩
  | 96 => ⟨S8x16x64x64, .f32⟩
  | 97 => ⟨S_, .f32⟩
  | 98 => ⟨S8x16x64, .f32⟩
  | 99 => ⟨S8x16x64x1, .f32⟩
  | 100 => ⟨S8x16x64x64, .f32⟩
  | 101 => ⟨S8x16x64x64, .f32⟩
  | 102 => ⟨S8x16x64x64, .f32⟩
  | 103 => ⟨S8x64x16x64, .f32⟩
  | 104 => ⟨S8x64x1024, .f32⟩
  | 105 => ⟨S8x64x1024, .f32⟩
  | 106 => ⟨S8x64x1024, .f32⟩
  | 107 => ⟨S1x1024, .f32⟩
  | 108 => ⟨S1024, .f32⟩
  | 109 => ⟨S1x1x1024, .f32⟩
  | 110 => ⟨S8x64x1024, .f32⟩
  | 111 => ⟨S8x64x1024, .f32⟩
  | 112 => ⟨S8x64x1024, .f32⟩
  | 113 => ⟨S_, .f32⟩
  | 114 => ⟨S8x64, .f32⟩
  | 115 => ⟨S8x64x1, .f32⟩
  | 116 => ⟨S_, .f32⟩
  | 117 => ⟨S8x64x1, .f32⟩
  | 118 => ⟨S8x64x1, .f32⟩
  | 119 => ⟨S_, .f32⟩
  | 120 => ⟨S8x64x1, .f32⟩
  | 121 => ⟨S8x64x1, .f32⟩
  | 122 => ⟨S8x64x1, .f32⟩
  | 123 => ⟨S8x64x1024, .f32⟩
  | 124 => ⟨S8x64x1024, .f32⟩
  | 125 => ⟨S512x1024, .f32⟩
  | 126 => ⟨S1x1024x8, .f32⟩
  | 127 => ⟨S1024x8, .f32⟩
  | _ => ⟨S8x2048x1, .f32⟩

abbrev hbmTy0_1 (i : Nat) : BufTy := match i % 128 with
  | 0 => ⟨S1x8x1024x1024, .f32⟩
  | 1 => ⟨S8x1024x1024, .f32⟩
  | 2 => ⟨S1x8x1024x1024, .f32⟩
  | 3 => ⟨S8x1024x1024, .f32⟩
  | 4 => ⟨S512x8, .f32⟩
  | 5 => ⟨S_, .f32⟩
  | 6 => ⟨S512, .f32⟩
  | 7 => ⟨S_, .f32⟩
  | 8 => ⟨S512, .f32⟩
  | 9 => ⟨S512, .f32⟩
  | 10 => ⟨S512x1, .f32⟩
  | 11 => ⟨S512x8, .f32⟩
  | 12 => ⟨S512x8, .f32⟩
  | 13 => ⟨S512x8, .f32⟩
  | 14 => ⟨S_, .f32⟩
  | 15 => ⟨S512, .f32⟩
  | 16 => ⟨S512x1, .f32⟩
  | 17 => ⟨S512x8, .f32⟩
  | 18 => ⟨S512x8, .f32⟩
  | 19 => ⟨S512x2, .f32⟩
  | 20 => ⟨S512x2, .i32⟩
  | 21 => ⟨S_, .f32⟩
  | 22 => ⟨S512, .f32⟩
  | 23 => ⟨S512x1, .f32⟩
  | 24 => ⟨S_, .f32⟩
  | 25 => ⟨S512x1, .f32⟩
  | 26 => ⟨S512x1, .f32⟩
  | 27 => ⟨S512x2, .f32⟩
  | 28 => ⟨S512x2, .f32⟩
  | 29 => ⟨S512x2x1, .i32⟩
  | 30 => ⟨S1x1x8, .i32⟩
  | 31 => ⟨S512x2x8, .i32⟩
  | 32 => ⟨S512x2x8, .i32⟩
  | 33 => ⟨S512x2x8, .i1⟩
  | 34 => ⟨S512x2x8, .f32⟩
  | 35 => ⟨S2x512x8, .f32⟩
  | 36 => ⟨S1024x8, .f32⟩
  | 37 => ⟨S_, .f32⟩
  | 38 => ⟨S_, .f32⟩
  | 39 => ⟨S1024x8, .f32⟩
  | 40 => ⟨S1024x8, .f32⟩
  | 41 => ⟨S1024x8, .f32⟩
  | 42 => ⟨S_, .f32⟩
  | 43 => ⟨S1024, .f32⟩
  | 44 => ⟨S_, .f32⟩
  | 45 => ⟨S1024, .f32⟩
  | 46 => ⟨S1024, .i1⟩
  | 47 => ⟨S1024, .f32⟩
  | 48 => ⟨S2x512, .f32⟩
  | 49 => ⟨S512x2, .f32⟩
  | 50 => ⟨S2x512, .f32⟩
  | 51 => ⟨S512x2, .f32⟩
  | 52 => ⟨S512x2, .i32⟩
  | 53 => ⟨S512x2x1, .i32⟩
  | 54 => ⟨S1x1x160, .i32⟩
  | 55 => ⟨S512x2x160, .i32⟩
  | 56 => ⟨S512x2x160, .i32⟩
  | 57 => ⟨S512x2x160, .i1⟩
  | 58 => ⟨S512x2x160, .f32⟩
  | 59 => ⟨S512x2x1, .f32⟩
  | 60 => ⟨S512x2x8, .f32⟩
  | 61 => ⟨S512x2x8, .f32⟩
  | 62 => ⟨S512x8x160, .f32⟩
  | 63 => ⟨S512x2, .f32⟩
  | 64 => ⟨S512x2x1, .f32⟩
  | 65 => ⟨S512x2x8, .f32⟩
  | 66 => ⟨S512x2x8, .f32⟩
  | 67 => ⟨S512x8x160, .f32⟩
  | 68 => ⟨S8x160x1024, .f32⟩
  | 69 => ⟨S8x160x1024, .f32⟩
  | 70 => ⟨S8x160x1024, .f32⟩
  | 71 => ⟨S8x160x1024, .f32⟩
  | 72 => ⟨S_, .f32⟩
  | 73 => ⟨S8x160x1024, .f32⟩
  | 74 => ⟨S8x160x1024, .f32⟩
  | 75 => ⟨S_, .f32⟩
  | 76 => ⟨S8x160x1024, .f32⟩
  | 77 => ⟨S8x160x1024, .f32⟩
  | 78 => ⟨S8x160x1024, .f32⟩
  | 79 => ⟨S8x160x1024, .f32⟩
  | 80 => ⟨S512x1024, .f32⟩
  | 81 => ⟨S_, .f32⟩
  | 82 => ⟨S8, .f32⟩
  | 83 => ⟨S8, .f32⟩
  | 84 => ⟨S512x1024, .f32⟩
  | 85 => ⟨S8x64x1024, .f32⟩
  | 86 => ⟨S8x64x1024, .f32⟩
  | 87 => ⟨S1x1024, .f32⟩
  | 88 => ⟨S1024, .f32⟩
  | 89 => ⟨S1x1x1024, .f32⟩
  | 90 => ⟨S8x64x1024, .f32⟩
  | 91 => ⟨S8x64x1024, .f32⟩
  | 92 => ⟨S8x64x1024, .f32⟩
  | 93 => ⟨S_, .f32⟩
  | 94 => ⟨S8x64, .f32⟩
  | 95 => ⟨S8x64x1, .f32⟩
  | 96 => ⟨S_, .f32⟩
  | 97 => ⟨S8x64x1, .f32⟩
  | 98 => ⟨S8x64x1, .f32⟩
  | 99 => ⟨S_, .f32⟩
  | 100 => ⟨S8x64x1, .f32⟩
  | 101 => ⟨S8x64x1, .f32⟩
  | 102 => ⟨S8x64x1, .f32⟩
  | 103 => ⟨S8x64x1024, .f32⟩
  | 104 => ⟨S8x64x1024, .f32⟩
  | 105 => ⟨S1x1024x3072, .f32⟩
  | 106 => ⟨S1024x3072, .f32⟩
  | 107 => ⟨S1x1024x1024, .f32⟩
  | 108 => ⟨S1024x1024, .f32⟩
  | 109 => ⟨S8x64x3072, .f32⟩
  | 110 => ⟨S8x64x1024, .f32⟩
  | 111 => ⟨S8x64x1024, .f32⟩
  | 112 => ⟨S8x64x1024, .f32⟩
  | 113 => ⟨S8x64x16x64, .f32⟩
  | 114 => ⟨S8x16x64x64, .f32⟩
  | 115 => ⟨S8x64x16x64, .f32⟩
  | 116 => ⟨S8x16x64x64, .f32⟩
  | 117 => ⟨S8x64x16x64, .f32⟩
  | 118 => ⟨S8x16x64x64, .f32⟩
  | 119 => ⟨S8x16x64x64, .f32⟩
  | 120 => ⟨S8x16x64x64, .f32⟩
  | 121 => ⟨S_, .f32⟩
  | 122 => ⟨S8x16x64x64, .f32⟩
  | 123 => ⟨S8x16x64x64, .f32⟩
  | 124 => ⟨S_, .i1⟩
  | 125 => ⟨S64x64, .i1⟩
  | 126 => ⟨S64x64, .i32⟩
  | 127 => ⟨S_, .i32⟩
  | _ => ⟨S8x2048x1, .f32⟩

abbrev hbmTy0_2 (i : Nat) : BufTy := match i % 128 with
  | 0 => ⟨S64x64, .i32⟩
  | 1 => ⟨S64x64, .i32⟩
  | 2 => ⟨S64x64, .i32⟩
  | 3 => ⟨S64x64, .i1⟩
  | 4 => ⟨S_, .i1⟩
  | 5 => ⟨S64x64, .i1⟩
  | 6 => ⟨S64x64, .i1⟩
  | 7 => ⟨S_, .f32⟩
  | 8 => ⟨S_, .f32⟩
  | 9 => ⟨S8x16x64x64, .i1⟩
  | 10 => ⟨S8x16x64x64, .f32⟩
  | 11 => ⟨S8x16x64x64, .f32⟩
  | 12 => ⟨S_, .f32⟩
  | 13 => ⟨S8x16x64, .f32⟩
  | 14 => ⟨S_, .f32⟩
  | 15 => ⟨S8x16x64, .f32⟩
  | 16 => ⟨S8x16x64, .f32⟩
  | 17 => ⟨S8x16x64x1, .f32⟩
  | 18 => ⟨S8x16x64x64, .f32⟩
  | 19 => ⟨S8x16x64x64, .f32⟩
  | 20 => ⟨S8x16x64x64, .f32⟩
  | 21 => ⟨S_, .f32⟩
  | 22 => ⟨S8x16x64, .f32⟩
  | 23 => ⟨S8x16x64x1, .f32⟩
  | 24 => ⟨S8x16x64x64, .f32⟩
  | 25 => ⟨S8x16x64x64, .f32⟩
  | 26 => ⟨S8x16x64x64, .f32⟩
  | 27 => ⟨S8x64x16x64, .f32⟩
  | 28 => ⟨S8x64x1024, .f32⟩
  | 29 => ⟨S8x64x1024, .f32⟩
  | 30 => ⟨S8x64x1024, .f32⟩
  | 31 => ⟨S1x1024, .f32⟩
  | 32 => ⟨S1024, .f32⟩
  | 33 => ⟨S1x1x1024, .f32⟩
  | 34 => ⟨S8x64x1024, .f32⟩
  | 35 => ⟨S8x64x1024, .f32⟩
  | 36 => ⟨S8x64x1024, .f32⟩
  | 37 => ⟨S_, .f32⟩
  | 38 => ⟨S8x64, .f32⟩
  | 39 => ⟨S8x64x1, .f32⟩
  | 40 => ⟨S_, .f32⟩
  | 41 => ⟨S8x64x1, .f32⟩
  | 42 => ⟨S8x64x1, .f32⟩
  | 43 => ⟨S_, .f32⟩
  | 44 => ⟨S8x64x1, .f32⟩
  | 45 => ⟨S8x64x1, .f32⟩
  | 46 => ⟨S8x64x1, .f32⟩
  | 47 => ⟨S8x64x1024, .f32⟩
  | 48 => ⟨S8x64x1024, .f32⟩
  | 49 => ⟨S512x1024, .f32⟩
  | 50 => ⟨S1x1024x8, .f32⟩
  | 51 => ⟨S1024x8, .f32⟩
  | 52 => ⟨S1x8x1024x1024, .f32⟩
  | 53 => ⟨S8x1024x1024, .f32⟩
  | 54 => ⟨S1x8x1024x1024, .f32⟩
  | 55 => ⟨S8x1024x1024, .f32⟩
  | 56 => ⟨S512x8, .f32⟩
  | 57 => ⟨S_, .f32⟩
  | 58 => ⟨S512, .f32⟩
  | 59 => ⟨S_, .f32⟩
  | 60 => ⟨S512, .f32⟩
  | 61 => ⟨S512, .f32⟩
  | 62 => ⟨S512x1, .f32⟩
  | 63 => ⟨S512x8, .f32⟩
  | 64 => ⟨S512x8, .f32⟩
  | 65 => ⟨S512x8, .f32⟩
  | 66 => ⟨S_, .f32⟩
  | 67 => ⟨S512, .f32⟩
  | 68 => ⟨S512x1, .f32⟩
  | 69 => ⟨S512x8, .f32⟩
  | 70 => ⟨S512x8, .f32⟩
  | 71 => ⟨S512x2, .f32⟩
  | 72 => ⟨S512x2, .i32⟩
  | 73 => ⟨S_, .f32⟩
  | 74 => ⟨S512, .f32⟩
  | 75 => ⟨S512x1, .f32⟩
  | 76 => ⟨S_, .f32⟩
  | 77 => ⟨S512x1, .f32⟩
  | 78 => ⟨S512x1, .f32⟩
  | 79 => ⟨S512x2, .f32⟩
  | 80 => ⟨S512x2, .f32⟩
  | 81 => ⟨S512x2x1, .i32⟩
  | 82 => ⟨S1x1x8, .i32⟩
  | 83 => ⟨S512x2x8, .i32⟩
  | 84 => ⟨S512x2x8, .i32⟩
  | 85 => ⟨S512x2x8, .i1⟩
  | 86 => ⟨S512x2x8, .f32⟩
  | 87 => ⟨S2x512x8, .f32⟩
  | 88 => ⟨S1024x8, .f32⟩
  | 89 => ⟨S_, .f32⟩
  | 90 => ⟨S_, .f32⟩
  | 91 => ⟨S1024x8, .f32⟩
  | 92 => ⟨S1024x8, .f32⟩
  | 93 => ⟨S1024x8, .f32⟩
  | 94 => ⟨S_, .f32⟩
  | 95 => ⟨S1024, .f32⟩
  | 96 => ⟨S_, .f32⟩
  | 97 => ⟨S1024, .f32⟩
  | 98 => ⟨S1024, .i1⟩
  | 99 => ⟨S1024, .f32⟩
  | 100 => ⟨S2x512, .f32⟩
  | 101 => ⟨S512x2, .f32⟩
  | 102 => ⟨S2x512, .f32⟩
  | 103 => ⟨S512x2, .f32⟩
  | 104 => ⟨S512x2, .i32⟩
  | 105 => ⟨S512x2x1, .i32⟩
  | 106 => ⟨S1x1x160, .i32⟩
  | 107 => ⟨S512x2x160, .i32⟩
  | 108 => ⟨S512x2x160, .i32⟩
  | 109 => ⟨S512x2x160, .i1⟩
  | 110 => ⟨S512x2x160, .f32⟩
  | 111 => ⟨S512x2x1, .f32⟩
  | 112 => ⟨S512x2x8, .f32⟩
  | 113 => ⟨S512x2x8, .f32⟩
  | 114 => ⟨S512x8x160, .f32⟩
  | 115 => ⟨S512x2, .f32⟩
  | 116 => ⟨S512x2x1, .f32⟩
  | 117 => ⟨S512x2x8, .f32⟩
  | 118 => ⟨S512x2x8, .f32⟩
  | 119 => ⟨S512x8x160, .f32⟩
  | 120 => ⟨S8x160x1024, .f32⟩
  | 121 => ⟨S8x160x1024, .f32⟩
  | 122 => ⟨S8x160x1024, .f32⟩
  | 123 => ⟨S8x160x1024, .f32⟩
  | 124 => ⟨S_, .f32⟩
  | 125 => ⟨S8x160x1024, .f32⟩
  | 126 => ⟨S8x160x1024, .f32⟩
  | 127 => ⟨S_, .f32⟩
  | _ => ⟨S8x2048x1, .f32⟩

abbrev hbmTy0_3 (i : Nat) : BufTy := match i % 128 with
  | 0 => ⟨S8x160x1024, .f32⟩
  | 1 => ⟨S8x160x1024, .f32⟩
  | 2 => ⟨S8x160x1024, .f32⟩
  | 3 => ⟨S8x160x1024, .f32⟩
  | 4 => ⟨S512x1024, .f32⟩
  | 5 => ⟨S_, .f32⟩
  | 6 => ⟨S8, .f32⟩
  | 7 => ⟨S8, .f32⟩
  | 8 => ⟨S512x1024, .f32⟩
  | 9 => ⟨S8x64x1024, .f32⟩
  | 10 => ⟨S8x64x1024, .f32⟩
  | 11 => ⟨S8x64x1, .f32⟩
  | 12 => ⟨S1x1x1, .f32⟩
  | 13 => ⟨S8x64x1, .f32⟩
  | 14 => ⟨S8x64x1, .f32⟩
  | 15 => ⟨S8x64x8, .f32⟩
  | 16 => ⟨S1x1x8, .f32⟩
  | 17 => ⟨S8x64x8, .f32⟩
  | 18 => ⟨S8x64x8, .f32⟩
  | 19 => ⟨S8x64x32, .f32⟩
  | 20 => ⟨S1x1x32, .f32⟩
  | 21 => ⟨S8x64x32, .f32⟩
  | 22 => ⟨S8x64x32, .f32⟩
  | 23 => ⟨S8x64x64, .f32⟩
  | 24 => ⟨S1x1x64, .f32⟩
  | 25 => ⟨S8x64x64, .f32⟩
  | 26 => ⟨S8x64x64, .f32⟩
  | _ => ⟨S8x2048x1, .f32⟩

abbrev hbmTy (i : Nat) : BufTy := match i / 128 with
  | 0 => hbmTy0_0 i
  | 1 => hbmTy0_1 i
  | 2 => hbmTy0_2 i
  | 3 => hbmTy0_3 i
  | _ => ⟨S8x2048x1, .f32⟩

abbrev bufTy : (tb : Table) → Fin (tcTables nBuf tb) → BufTy
  | .hbm, ⟨i, _⟩ => hbmTy i
  | _, _ => ⟨S8x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_v40 : Ref sig .tc := ⟨.hbm, 71, rfl⟩
abbrev main_c : Ref sig .tc := ⟨.hbm, 72, rfl⟩
abbrev main_v41 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_0 : Ref sig .tc := ⟨.hbm, 80, rfl⟩
abbrev main_call1_v5 : Ref sig .tc := ⟨.hbm, 81, rfl⟩
abbrev main_v42 : Ref sig .tc := ⟨.hbm, 82, rfl⟩
abbrev main_cst_4 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v43 : Ref sig .tc := ⟨.hbm, 87, rfl⟩
abbrev main_cst_5 : Ref sig .tc := ⟨.hbm, 88, rfl⟩
abbrev main_v44 : Ref sig .tc := ⟨.hbm, 89, rfl⟩
abbrev main_cst_6 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_7 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_8 : Ref sig .tc := ⟨.hbm, 113, rfl⟩
abbrev main_v66 : Ref sig .tc := ⟨.hbm, 114, rfl⟩
abbrev main_v67 : Ref sig .tc := ⟨.hbm, 115, rfl⟩
abbrev main_cst_9 : Ref sig .tc := ⟨.hbm, 116, rfl⟩
abbrev main_v68 : Ref sig .tc := ⟨.hbm, 117, rfl⟩
abbrev main_v69 : Ref sig .tc := ⟨.hbm, 118, rfl⟩
abbrev main_cst_10 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_11 : Ref sig .tc := ⟨.hbm, 133, rfl⟩
abbrev main_v83 : Ref sig .tc := ⟨.hbm, 134, rfl⟩
abbrev main_cst_12 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_13 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_values : Ref sig .tc := ⟨.hbm, 147, rfl⟩
abbrev main_indices : Ref sig .tc := ⟨.hbm, 148, rfl⟩
abbrev main_cst_14 : Ref sig .tc := ⟨.hbm, 149, rfl⟩
abbrev main_v94 : Ref sig .tc := ⟨.hbm, 150, rfl⟩
abbrev main_v95 : Ref sig .tc := ⟨.hbm, 151, rfl⟩
abbrev main_cst_15 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_call4_call0_cst : Ref sig .tc := ⟨.hbm, 165, rfl⟩
abbrev main_call4_call0_v0 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_16 : Ref sig .tc := ⟨.hbm, 170, rfl⟩
abbrev main_v106 : Ref sig .tc := ⟨.hbm, 171, rfl⟩
abbrev main_cst_17 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_call5_v0 : Ref sig .tc := ⟨.hbm, 181, rfl⟩
abbrev main_call5_v1 : Ref sig .tc := ⟨.hbm, 182, rfl⟩
abbrev main_call5_v2 : Ref sig .tc := ⟨.hbm, 183, rfl⟩
abbrev main_call5_v3 : Ref sig .tc := ⟨.hbm, 184, rfl⟩
abbrev main_call5_v4 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_call6_v0 : Ref sig .tc := ⟨.hbm, 198, rfl⟩
abbrev main_call6_v1 : Ref sig .tc := ⟨.hbm, 199, rfl⟩
abbrev main_call6_cst : Ref sig .tc := ⟨.hbm, 200, rfl⟩
abbrev main_call6_v2 : Ref sig .tc := ⟨.hbm, 201, rfl⟩
abbrev main_call6_v3 : Ref sig .tc := ⟨.hbm, 202, rfl⟩
abbrev main_call6_cst_0 : Ref sig .tc := ⟨.hbm, 203, rfl⟩
abbrev main_call6_v4 : Ref sig .tc := ⟨.hbm, 204, rfl⟩
abbrev main_call6_v5 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_cst_18 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_19 : Ref sig .tc := ⟨.hbm, 221, rfl⟩
abbrev main_v141 : Ref sig .tc := ⟨.hbm, 222, rfl⟩
abbrev main_v142 : Ref sig .tc := ⟨.hbm, 223, rfl⟩
abbrev main_cst_20 : Ref sig .tc := ⟨.hbm, 224, rfl⟩
abbrev main_v143 : Ref sig .tc := ⟨.hbm, 225, rfl⟩
abbrev main_v144 : Ref sig .tc := ⟨.hbm, 226, rfl⟩
abbrev main_cst_21 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_cst_22 : Ref sig .tc := ⟨.hbm, 249, rfl⟩
abbrev main_v166 : Ref sig .tc := ⟨.hbm, 250, rfl⟩
abbrev main_v167 : Ref sig .tc := ⟨.hbm, 251, rfl⟩
abbrev main_c_23 : Ref sig .tc := ⟨.hbm, 252, rfl⟩
abbrev main_v168 : Ref sig .tc := ⟨.hbm, 253, rfl⟩
abbrev main_call7_v0 : Ref sig .tc := ⟨.hbm, 254, rfl⟩
abbrev main_call7_c : Ref sig .tc := ⟨.hbm, 255, rfl⟩
abbrev main_call7_v1 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_call7_c_0 : Ref sig .tc := ⟨.hbm, 260, rfl⟩
abbrev main_call7_v5 : Ref sig .tc := ⟨.hbm, 261, rfl⟩
abbrev main_v169 : Ref sig .tc := ⟨.hbm, 262, rfl⟩
abbrev main_cst_24 : Ref sig .tc := ⟨.hbm, 263, rfl⟩
abbrev main_call8_v0 : Ref sig .tc := ⟨.hbm, 264, rfl⟩
abbrev main_call8_v1 : Ref sig .tc := ⟨.hbm, 265, rfl⟩
abbrev main_call8_v2 : Ref sig .tc := ⟨.hbm, 266, rfl⟩
abbrev main_v170 : Ref sig .tc := ⟨.hbm, 267, rfl⟩
abbrev main_cst_25 : Ref sig .tc := ⟨.hbm, 268, rfl⟩
abbrev main_v171 : Ref sig .tc := ⟨.hbm, 269, rfl⟩
abbrev main_cst_26 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_cst_27 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_cst_28 : Ref sig .tc := ⟨.hbm, 293, rfl⟩
abbrev main_v193 : Ref sig .tc := ⟨.hbm, 294, rfl⟩
abbrev main_v194 : Ref sig .tc := ⟨.hbm, 295, rfl⟩
abbrev main_cst_29 : Ref sig .tc := ⟨.hbm, 296, rfl⟩
abbrev main_v195 : Ref sig .tc := ⟨.hbm, 297, rfl⟩
abbrev main_v196 : Ref sig .tc := ⟨.hbm, 298, rfl⟩
abbrev main_cst_30 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_cst_31 : Ref sig .tc := ⟨.hbm, 313, rfl⟩
abbrev main_v210 : Ref sig .tc := ⟨.hbm, 314, rfl⟩
abbrev main_cst_32 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_cst_33 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_values_34 : Ref sig .tc := ⟨.hbm, 327, rfl⟩
abbrev main_indices_35 : Ref sig .tc := ⟨.hbm, 328, rfl⟩
abbrev main_cst_36 : Ref sig .tc := ⟨.hbm, 329, rfl⟩
abbrev main_v221 : Ref sig .tc := ⟨.hbm, 330, rfl⟩
abbrev main_v222 : Ref sig .tc := ⟨.hbm, 331, rfl⟩
abbrev main_cst_37 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_call9_v0 : Ref sig .tc := ⟨.hbm, 337, rfl⟩
abbrev main_call9_v1 : Ref sig .tc := ⟨.hbm, 338, rfl⟩
abbrev main_call9_v2 : Ref sig .tc := ⟨.hbm, 339, rfl⟩
abbrev main_call9_v3 : Ref sig .tc := ⟨.hbm, 340, rfl⟩
abbrev main_call9_v4 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_call10_call0_cst : Ref sig .tc := ⟨.hbm, 345, rfl⟩
abbrev main_call10_call0_v0 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_cst_38 : Ref sig .tc := ⟨.hbm, 350, rfl⟩
abbrev main_v233 : Ref sig .tc := ⟨.hbm, 351, rfl⟩
abbrev main_cst_39 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_call11_v0 : Ref sig .tc := ⟨.hbm, 361, rfl⟩
abbrev main_call11_v1 : Ref sig .tc := ⟨.hbm, 362, rfl⟩
abbrev main_call11_v2 : Ref sig .tc := ⟨.hbm, 363, rfl⟩
abbrev main_call11_v3 : Ref sig .tc := ⟨.hbm, 364, rfl⟩
abbrev main_call11_v4 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_call12_v0 : Ref sig .tc := ⟨.hbm, 378, rfl⟩
abbrev main_call12_v1 : Ref sig .tc := ⟨.hbm, 379, rfl⟩
abbrev main_call12_cst : Ref sig .tc := ⟨.hbm, 380, rfl⟩
abbrev main_call12_v2 : Ref sig .tc := ⟨.hbm, 381, rfl⟩
abbrev main_call12_v3 : Ref sig .tc := ⟨.hbm, 382, rfl⟩
abbrev main_call12_cst_0 : Ref sig .tc := ⟨.hbm, 383, rfl⟩
abbrev main_call12_v4 : Ref sig .tc := ⟨.hbm, 384, rfl⟩
abbrev main_call12_v5 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_cst_40 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_v271 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩

abbrev nD : Nat := 1
abbrev τ : Topo := Topo.v7x

variable {F : FTy → Type} [FloatOps F]

def κ : String → Option EReal := fun
  | "mask" => some ⊥
  | _ => none
-- ==== Proof.KernelRun.lean ====
/- The kernel body's run at any float operations, what it leaves in its outputs left open. -/
module

public import proofs.«01_k».proof.Proof.KernelSetup

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 3076000 in set_option sl_exec.dmaWindow true in set_option sl_exec.dmaWindowSet true in
theorem kernelRun0_A (c : Dev nD) (arg0 : Memref sig .tc .vmem S512x32 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x1024x8 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1024x8 .f32) (harg8 : arg8.IsWhole) (arg9 : Memref sig .tc .vmem S8 .f32) (harg9 : arg9.IsWhole) (arg10 : Memref sig .tc .vmem S1024x32 .f32) (harg10 : arg10.IsWhole) (arg11 : Memref sig .tc .vmem S32 .f32) (harg11 : arg11.IsWhole) (arg12 : Memref sig .tc .vmem S1024x64 .f32) (harg12 : arg12.IsWhole) (arg13 : Memref sig .tc .vmem S64 .f32) (harg13 : arg13.IsWhole) (arg18 : Memref sig .tc .vmem S8x64x1 .f32) (harg18 : arg18.IsWhole) (arg19 : Memref sig .tc .vmem S8x64x8 .f32) (harg19 : arg19.IsWhole) (arg20 : Memref sig .tc .vmem S8x64x32 .f32) (harg20 : arg20.IsWhole) (arg21 : Memref sig .tc .vmem S8x64x64 .f32) (harg21 : arg21.IsWhole) (arg22 : Memref sig .tc .vmem S8 .f32) (harg22 : arg22.IsWhole) (arg23 : Memref sig .tc .vmem S1024x3072 .f32) (harg23 : arg23.IsWhole) (arg24 : Memref sig .tc .vmem S1024x1024 .f32) (harg24 : arg24.IsWhole) (arg25 : Memref sig .tc .vmem S3x1024x1024 .f32) (harg25 : arg25.IsWhole) (arg26 : Memref sig .tc .vmem S3x1024x1024 .f32) (harg26 : arg26.IsWhole)
    (x0 : Vec F S512x32 .f32) (x1 : Vec F S32x1024 .f32) (x2 : Vec F S32x1024 .f32) (x3 : Vec F S2x1024 .f32) (x4 : Vec F S2x1024 .f32) (x5 : Vec F S2x1024x8 .f32) (x6 : Vec F S1024x1 .f32) (x7 : Vec F S1 .f32) (x8 : Vec F S1024x8 .f32) (x9 : Vec F S8 .f32) (x10 : Vec F S1024x32 .f32) (x11 : Vec F S32 .f32) (x12 : Vec F S1024x64 .f32) (x13 : Vec F S64 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__mega_body arg0 harg0 arg1 harg1 arg2 harg2 arg3 harg3 arg4 harg4 arg5 harg5 arg6 harg6 arg7 harg7 arg8 harg8 arg9 harg9 arg10 harg10 arg11 harg11 arg12 harg12 arg13 harg13 (Memref.whole main_arg4) (Memref.isWhole_whole _) (Memref.whole main_arg5) (Memref.isWhole_whole _) (Memref.whole main_arg8) (Memref.isWhole_whole _) (Memref.whole main_arg9) (Memref.isWhole_whole _) arg18 harg18 arg19 harg19 arg20 harg20 arg21 harg21 arg22 harg22 arg23 harg23 arg24 harg24 arg25 harg25 arg26 harg26 cc0_scratch4 cc0_scratch5 cc0_scratch6 cc0_scratch7) K := by
    intro W K
    simp only [cc0__mega_body_eq_skeleton]; unfold cc0__mega_body_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hq6, Hq7, Hh0, Hh1, Hh2, Hh3, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    iexists _; iexact HW

end Cert.Kernel.Body

end
-- ==== Proof.KernelFrame.lean ====
/- The frame of the kernel: it terminates without a fault, its counters return to zero, and its arguments are unchanged. -/
module

public import proofs.«01_k».proof.Proof.KernelRun
public import Idealize.ShloMosaic.Lib.Claim

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

def forgets0 : Fin 19 → Bool := fun w => w.val == 14 || w.val == 15 || w.val == 16 || w.val == 17 || w.val == 18

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    after0_0, after0_1, after0_2, after0_3, after0_4, after0_5, after0_6, after0_7, after0_8, after0_9, after0_10, after0_11, after0_12, after0_13]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (V m c main_arg4) (V m c main_arg5) (V m c main_arg8) (V m c main_arg9)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, H13, H14, H15, H16, H17, H18, HS0, HS1, HS2, HS3, Hq0, Hq1, Hq2, Hq3, Hq4, Hq5, Hq6, Hq7, Hh0, Hh1, Hh2, Hh3, ⟨%W', HW'⟩⟩
  isplitl [HS0 HS1 HS2 HS3 Hg Hq0 Hq1 Hq2 Hq3 Hq4 Hq5 Hq6 Hq7 Hh0 Hh1 Hh2 Hh3]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel.Body

end
-- ==== Proof.Setup.lean ====
/- The launch of the idealized kernel: @main up to its one region, the arrays as the region finds them, and the
   invariant that hands the kernel body its scratch buffers, semaphores and the arrays left in HBM. -/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the blocks' axes are long
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`):
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`):
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`):
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`):
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`):
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`):
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`):
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`):
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`):
    `Dat.before_in_eq_fetched` (unfetched, the index has not moved), the window uncut and never idle. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`):
    `Dat.before_in_eq_fetched` (unfetched, the index has not moved), the window uncut and never idle. -/
theorem before0_13_of {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    the library's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 4 rfl).trans ((hA c 4).trans (V_main_arg6 m c)),
      (Pipeline.RDat.FramePost.arr_in h c 5 rfl).trans ((hA c 5).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 6 rfl).trans ((hA c 6).trans (V_main_arg10 m c)),
      (Pipeline.RDat.FramePost.arr_in h c 7 rfl).trans ((hA c 7).trans (V_main_arg11 m c)),
      (Pipeline.RDat.FramePost.arr_in h c 8 rfl).trans ((hA c 8).trans (V_main_arg12 m c)),
      (Pipeline.RDat.FramePost.arr_in h c 9 rfl).trans ((hA c 9).trans (V_main_arg13 m c)),
      (Pipeline.RDat.FramePost.arr_in h c 10 rfl).trans ((hA c 10).trans (V_main_arg14 m c)),
      (Pipeline.RDat.FramePost.arr_in h c 11 rfl).trans ((hA c 11).trans (V_main_arg15 m c)),
      (Pipeline.RDat.FramePost.arr_in h c 12 rfl).trans ((hA c 12).trans (V_main_arg16 m c)),
      (Pipeline.RDat.FramePost.arr_in h c 13 rfl).trans ((hA c 13).trans (V_main_arg17 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S512x32 .f32 := win0_0.stage (cfg0.slots t 0)
abbrev hs0_0 (t : Fin cfg0.N) : (ms0_0 t).IsWhole := hstage0_0 0
abbrev ms0_1 (t : Fin cfg0.N) : Memref sig .tc .vmem S32x1024 .f32 := win0_1.stage (cfg0.slots t 1)
abbrev hs0_1 (t : Fin cfg0.N) : (ms0_1 t).IsWhole := hstage0_1 0
abbrev ms0_2 (t : Fin cfg0.N) : Memref sig .tc .vmem S32x1024 .f32 := win0_2.stage (cfg0.slots t 2)
abbrev hs0_2 (t : Fin cfg0.N) : (ms0_2 t).IsWhole := hstage0_2 0
abbrev ms0_3 (t : Fin cfg0.N) : Memref sig .tc .vmem S2x1024 .f32 := win0_3.stage (cfg0.slots t 3)
abbrev hs0_3 (t : Fin cfg0.N) : (ms0_3 t).IsWhole := hstage0_3 0
abbrev ms0_4 (t : Fin cfg0.N) : Memref sig .tc .vmem S2x1024 .f32 := win0_4.stage (cfg0.slots t 4)
abbrev hs0_4 (t : Fin cfg0.N) : (ms0_4 t).IsWhole := hstage0_4 0
abbrev ms0_5 (t : Fin cfg0.N) : Memref sig .tc .vmem S2x1024x8 .f32 := win0_5.stage (cfg0.slots t 5)
abbrev hs0_5 (t : Fin cfg0.N) : (ms0_5 t).IsWhole := hstage0_5 0
abbrev ms0_6 (t : Fin cfg0.N) : Memref sig .tc .vmem S1024x1 .f32 := win0_6.stage (cfg0.slots t 6)
abbrev hs0_6 (t : Fin cfg0.N) : (ms0_6 t).IsWhole := hstage0_6 0
abbrev ms0_7 (t : Fin cfg0.N) : Memref sig .tc .vmem S1 .f32 := win0_7.stage (cfg0.slots t 7)
abbrev hs0_7 (t : Fin cfg0.N) : (ms0_7 t).IsWhole := hstage0_7 0
abbrev ms0_8 (t : Fin cfg0.N) : Memref sig .tc .vmem S1024x8 .f32 := win0_8.stage (cfg0.slots t 8)
abbrev hs0_8 (t : Fin cfg0.N) : (ms0_8 t).IsWhole := hstage0_8 0
abbrev ms0_9 (t : Fin cfg0.N) : Memref sig .tc .vmem S8 .f32 := win0_9.stage (cfg0.slots t 9)
abbrev hs0_9 (t : Fin cfg0.N) : (ms0_9 t).IsWhole := hstage0_9 0
abbrev ms0_10 (t : Fin cfg0.N) : Memref sig .tc .vmem S1024x32 .f32 := win0_10.stage (cfg0.slots t 10)
abbrev hs0_10 (t : Fin cfg0.N) : (ms0_10 t).IsWhole := hstage0_10 0
abbrev ms0_11 (t : Fin cfg0.N) : Memref sig .tc .vmem S32 .f32 := win0_11.stage (cfg0.slots t 11)
abbrev hs0_11 (t : Fin cfg0.N) : (ms0_11 t).IsWhole := hstage0_11 0
abbrev ms0_12 (t : Fin cfg0.N) : Memref sig .tc .vmem S1024x64 .f32 := win0_12.stage (cfg0.slots t 12)
abbrev hs0_12 (t : Fin cfg0.N) : (ms0_12 t).IsWhole := hstage0_12 0
abbrev ms0_13 (t : Fin cfg0.N) : Memref sig .tc .vmem S64 .f32 := win0_13.stage (cfg0.slots t 13)
abbrev hs0_13 (t : Fin cfg0.N) : (ms0_13 t).IsWhole := hstage0_13 0
abbrev ms0_14 (t : Fin cfg0.N) : Memref sig .tc .vmem S8x64x1 .f32 := win0_14.stage (cfg0.slots t 14)
abbrev hs0_14 (t : Fin cfg0.N) : (ms0_14 t).IsWhole := hstage0_14 0
abbrev ms0_15 (t : Fin cfg0.N) : Memref sig .tc .vmem S8x64x8 .f32 := win0_15.stage (cfg0.slots t 15)
abbrev hs0_15 (t : Fin cfg0.N) : (ms0_15 t).IsWhole := hstage0_15 0
abbrev ms0_16 (t : Fin cfg0.N) : Memref sig .tc .vmem S8x64x32 .f32 := win0_16.stage (cfg0.slots t 16)
abbrev hs0_16 (t : Fin cfg0.N) : (ms0_16 t).IsWhole := hstage0_16 0
abbrev ms0_17 (t : Fin cfg0.N) : Memref sig .tc .vmem S8x64x64 .f32 := win0_17.stage (cfg0.slots t 17)
abbrev hs0_17 (t : Fin cfg0.N) : (ms0_17 t).IsWhole := hstage0_17 0
abbrev ms0_18 (t : Fin cfg0.N) : Memref sig .tc .vmem S8 .f32 := win0_18.stage (cfg0.slots t 18)
abbrev hs0_18 (t : Fin cfg0.N) : (ms0_18 t).IsWhole := hstage0_18 0
/-- The scratch operands: whole scoped buffers of the kernel's own, passed beside the windows. -/
abbrev scM0_0 : Memref sig .tc .vmem S1024x3072 .f32 := Memref.whole cc0_scratch0
abbrev scM0_1 : Memref sig .tc .vmem S1024x1024 .f32 := Memref.whole cc0_scratch1
abbrev scM0_2 : Memref sig .tc .vmem S3x1024x1024 .f32 := Memref.whole cc0_scratch2
abbrev scM0_3 : Memref sig .tc .vmem S3x1024x1024 .f32 := Memref.whole cc0_scratch3
/-- The operands left in HBM that the body copies into scratch itself, whole. -/
abbrev hbM0_0 : Memref sig .tc .hbm S2x1024x3072 .f32 := Memref.whole main_arg4
abbrev hbM0_1 : Memref sig .tc .hbm S2x1024x1024 .f32 := Memref.whole main_arg5
abbrev hbM0_2 : Memref sig .tc .hbm S2x8x1024x1024 .f32 := Memref.whole main_arg8
abbrev hbM0_3 : Memref sig .tc .hbm S2x8x1024x1024 .f32 := Memref.whole main_arg9
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 19, SemLoc.dma 20, SemLoc.dma 21, SemLoc.dma 22, SemLoc.dma 23, SemLoc.dma 24, SemLoc.dma 25, SemLoc.dma 26] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_arg4, main_arg5, main_arg8, main_arg9}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg5) ∗ hbPt0 c hbM0_2 (V m c main_arg8) ∗ hbPt0 c hbM0_3 (V m c main_arg9)) := by
  rw [BI.bigSep_eq_bigSepL_of_eq [main_arg4, main_arg5, main_arg8, main_arg9] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_arg4) ∗ hbPt0 c hbM0_1 (V m c main_arg5) ∗ hbPt0 c hbM0_2 (V m c main_arg8) ∗ hbPt0 c hbM0_3 (V m c main_arg9))) := by
  rw [Pipeline.ΦD_eq, scopedRest0_eq, ownSems00_eq, hbmPts0_eq]; simp only [scM0_0, scM0_1, scM0_2, scM0_3, owns_whole]; try rfl

end Cert.KernelIdeal.Body

end
-- ==== Proof.Run.lean ====
/- The kernel body's run: its five results, as it stores them. -/
module

public import proofs.«01_k».proof.Proof.Setup

@[expose] public section

-- the blocks' axes are long
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 3076000 in set_option sl_exec.dmaWindow true in set_option sl_exec.dmaWindowSet true in
/-- The body, run. The inputs' buffers hold `x0` … `x13`, the four large arrays `fh0` … `fh3`, the scratch buffers
    anything: the body ends with the inputs as they were and the five results' buffers written with the pieces given here. -/
def run (c : Dev nD) (arg0 : Memref sig .tc .vmem S512x32 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x1024x8 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1024x8 .f32) (harg8 : arg8.IsWhole) (arg9 : Memref sig .tc .vmem S8 .f32) (harg9 : arg9.IsWhole) (arg10 : Memref sig .tc .vmem S1024x32 .f32) (harg10 : arg10.IsWhole) (arg11 : Memref sig .tc .vmem S32 .f32) (harg11 : arg11.IsWhole) (arg12 : Memref sig .tc .vmem S1024x64 .f32) (harg12 : arg12.IsWhole) (arg13 : Memref sig .tc .vmem S64 .f32) (harg13 : arg13.IsWhole) (arg18 : Memref sig .tc .vmem S8x64x1 .f32) (harg18 : arg18.IsWhole) (arg19 : Memref sig .tc .vmem S8x64x8 .f32) (harg19 : arg19.IsWhole) (arg20 : Memref sig .tc .vmem S8x64x32 .f32) (harg20 : arg20.IsWhole) (arg21 : Memref sig .tc .vmem S8x64x64 .f32) (harg21 : arg21.IsWhole) (arg22 : Memref sig .tc .vmem S8 .f32) (harg22 : arg22.IsWhole) (arg23 : Memref sig .tc .vmem S1024x3072 .f32) (harg23 : arg23.IsWhole) (arg24 : Memref sig .tc .vmem S1024x1024 .f32) (harg24 : arg24.IsWhole) (arg25 : Memref sig .tc .vmem S3x1024x1024 .f32) (harg25 : arg25.IsWhole) (arg26 : Memref sig .tc .vmem S3x1024x1024 .f32) (harg26 : arg26.IsWhole)
    (x0 : Vec F S512x32 .f32) (x1 : Vec F S32x1024 .f32) (x2 : Vec F S32x1024 .f32) (x3 : Vec F S2x1024 .f32) (x4 : Vec F S2x1024 .f32) (x5 : Vec F S2x1024x8 .f32) (x6 : Vec F S1024x1 .f32) (x7 : Vec F S1 .f32) (x8 : Vec F S1024x8 .f32) (x9 : Vec F S8 .f32) (x10 : Vec F S1024x32 .f32) (x11 : Vec F S32 .f32) (x12 : Vec F S1024x64 .f32) (x13 : Vec F S64 .f32) (fh0 : HbBuf0 (F := F) c hbM0_0) (fh1 : HbBuf0 (F := F) c hbM0_1) (fh2 : HbBuf0 (F := F) c hbM0_2) (fh3 : HbBuf0 (F := F) c hbM0_3)
    (fs0 : arg23.view.ty.Contents (Elt F)) (fs1 : arg24.view.ty.Contents (Elt F)) (fs2 : arg25.view.ty.Contents (Elt F)) (fs3 : arg26.view.ty.Contents (Elt F)) :
    Σ' (L1 : List (View.Piece (Elt F) S8x64x1 .f32)) (L2 : List (View.Piece (Elt F) S8x64x8 .f32)) (L3 : List (View.Piece (Elt F) S8x64x32 .f32)) (L4 : List (View.Piece (Elt F) S8x64x64 .f32)), { L5 : List (View.Piece (Elt F) S8 .f32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (arg23.view.loc (c : Thread nD τ) ↦[arg23.view.set]{fullShare} fs0) ∗ (arg24.view.loc (c : Thread nD τ) ↦[arg24.view.set]{fullShare} fs1) ∗ (arg25.view.loc (c : Thread nD τ) ↦[arg25.view.set]{fullShare} fs2) ∗ (arg26.view.loc (c : Thread nD τ) ↦[arg26.view.set]{fullShare} fs3) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg18.view.loc (c : Thread nD τ) ↦[arg18.view.set]{fullShare} arg18.view.writes (Elt F) f L1) ∗ (∃ f, arg19.view.loc (c : Thread nD τ) ↦[arg19.view.set]{fullShare} arg19.view.writes (Elt F) f L2) ∗ (∃ f, arg20.view.loc (c : Thread nD τ) ↦[arg20.view.set]{fullShare} arg20.view.writes (Elt F) f L3) ∗ (∃ f, arg21.view.loc (c : Thread nD τ) ↦[arg21.view.set]{fullShare} arg21.view.writes (Elt F) f L4) ∗ (∃ f, arg22.view.loc (c : Thread nD τ) ↦[arg22.view.set]{fullShare} arg22.view.writes (Elt F) f L5) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__mega_body arg0 harg0 arg1 harg1 arg2 harg2 arg3 harg3 arg4 harg4 arg5 harg5 arg6 harg6 arg7 harg7 arg8 harg8 arg9 harg9 arg10 harg10 arg11 harg11 arg12 harg12 arg13 harg13 (Memref.whole main_arg4) (Memref.isWhole_whole _) (Memref.whole main_arg5) (Memref.isWhole_whole _) (Memref.whole main_arg8) (Memref.isWhole_whole _) (Memref.whole main_arg9) (Memref.isWhole_whole _) arg18 harg18 arg19 harg19 arg20 harg20 arg21 harg21 arg22 harg22 arg23 harg23 arg24 harg24 arg25 harg25 arg26 harg26 cc0_scratch4 cc0_scratch5 cc0_scratch6 cc0_scratch7) K } := by
  refine ⟨?_, ?_, ?_, ?_, ?_, fun W K => ?run⟩
  case run =>
    simp only [cc0__mega_body_eq_skeleton]; unfold cc0__mega_body_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, HS0, HS1, HS2, HS3, Hq0, Hq1, Hq2, Hq3, Hq4, Hq5, Hq6, Hq7, Hh0, Hh1, Hh2, Hh3, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    iexists _; iexact HW

end Cert.KernelIdeal.Body

end
-- ==== Proof.Model.lean ====
/- The kernel's arithmetic as functions of whole tensors. -/
module

public import proofs.«01_k».proof.Proof.Gen.KernelIdeal.Skeleton

@[expose] public section

set_option maxRecDepth 16384

noncomputable section

namespace Cert.KernelIdeal.Model

open Cert.KernelIdeal.Gen
open Idealize.ShloMosaic

variable {F : FTy → Type} [FloatOps F] [Named F]

/-! What the kernel computes, as functions of whole tensors: every operation is the kernel's, in the kernel's order. -/

/-- `x * w * rsqrt (mean (x * x) + 1e-6)`, row by row. -/
def rms (x : FVec F S512x1024 .f32) (w : Vec F S1x1024 .f32) : FVec F S512x1024 .f32 :=
  mulf (mulf x (broadcastTo S512x1024 w broadcasts_S1x1024_S512x1024))
    (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024)

/-- The projection to queries, keys and values. -/
def proj (x : FVec F S512x1024 .f32) (w : Vec F S1024x3072 .f32) : FVec F S512x3072 .f32 :=
  matmul dot_S512x1024_S1024x3072_S512x3072_1_0_0_1_n_n none x w (constant S512x3072 .f32 0x00000000#32)

/-- A head's scores, scaled and masked. -/
def scores (mask : IVec S512x512 1) (q k : FVec F S512x64 .f32) : FVec F S512x512 .f32 :=
  select mask (mulf (matmul dot_S512x64_S512x64_S512x512_1_1_0_0_n_n none q k (constant S512x512 .f32 0x00000000#32)) (broadcast S512x512 (Scalar.ofBits .f32 0x3E000000#32)))
    (broadcast S512x512 (Named.named κ "mask" 0xCE6E6B28#32))

/-- The exponentials of a row of scores less their maximum. -/
def expRow (s : FVec F S512x512 .f32) : FVec F S512x512 .f32 :=
  exp (subf s (broadcastTo S512x512 (shapeCast S512x1 (multiReduction .maximumf [1] S512 s 0xFF800000#32 reduces_S512x512_S512 (.inl rfl) rfl) shapeCasts_S512_S512x1) broadcasts_S512x1_S512x512))

/-- One head. -/
def head (mask : IVec S512x512 1) (q k v : FVec F S512x64 .f32) : FVec F S512x64 .f32 :=
  matmul dot_S512x512_S512x64_S512x64_1_0_0_1_n_n none
    (divf (expRow (scores mask q k)) (broadcastTo S512x512 (shapeCast S512x1 (multiReduction .add [1] S512 (expRow (scores mask q k)) 0x00000000#32 reduces_S512x512_S512 (.inl rfl) rfl) shapeCasts_S512_S512x1) broadcasts_S512x1_S512x512))
    v (constant S512x64 .f32 0x00000000#32)

/-- The head whose query, key and value columns start at `a`, `b` and `c`. -/
def slotHead (mask : IVec S512x512 1) (x : FVec F S512x3072 .f32) (a b c : Nat)
    (ha : S512x3072.Slices ![0, a] S512x64) (hb : S512x3072.Slices ![0, b] S512x64) (hc : S512x3072.Slices ![0, c] S512x64) : FVec F S512x64 .f32 :=
  head mask (extractStridedSlice S512x64 ![0, a] x ha) (extractStridedSlice S512x64 ![0, b] x hb) (extractStridedSlice S512x64 ![0, c] x hc)

/-- The sixteen heads side by side. -/
def ctx (mask : IVec S512x512 1) (x : FVec F S512x3072 .f32) : FVec F S512x1024 .f32 :=
  concatenate S512x1024 1 [⟨S512x64, slotHead mask x 0 1024 2048 slices_S512x3072_o0_0_S512x64 slices_S512x3072_o0_1024_S512x64 slices_S512x3072_o0_2048_S512x64⟩,
    ⟨S512x64, slotHead mask x 64 1088 2112 slices_S512x3072_o0_64_S512x64 slices_S512x3072_o0_1088_S512x64 slices_S512x3072_o0_2112_S512x64⟩,
    ⟨S512x64, slotHead mask x 128 1152 2176 slices_S512x3072_o0_128_S512x64 slices_S512x3072_o0_1152_S512x64 slices_S512x3072_o0_2176_S512x64⟩,
    ⟨S512x64, slotHead mask x 192 1216 2240 slices_S512x3072_o0_192_S512x64 slices_S512x3072_o0_1216_S512x64 slices_S512x3072_o0_2240_S512x64⟩,
    ⟨S512x64, slotHead mask x 256 1280 2304 slices_S512x3072_o0_256_S512x64 slices_S512x3072_o0_1280_S512x64 slices_S512x3072_o0_2304_S512x64⟩,
    ⟨S512x64, slotHead mask x 320 1344 2368 slices_S512x3072_o0_320_S512x64 slices_S512x3072_o0_1344_S512x64 slices_S512x3072_o0_2368_S512x64⟩,
    ⟨S512x64, slotHead mask x 384 1408 2432 slices_S512x3072_o0_384_S512x64 slices_S512x3072_o0_1408_S512x64 slices_S512x3072_o0_2432_S512x64⟩,
    ⟨S512x64, slotHead mask x 448 1472 2496 slices_S512x3072_o0_448_S512x64 slices_S512x3072_o0_1472_S512x64 slices_S512x3072_o0_2496_S512x64⟩,
    ⟨S512x64, slotHead mask x 512 1536 2560 slices_S512x3072_o0_512_S512x64 slices_S512x3072_o0_1536_S512x64 slices_S512x3072_o0_2560_S512x64⟩,
    ⟨S512x64, slotHead mask x 576 1600 2624 slices_S512x3072_o0_576_S512x64 slices_S512x3072_o0_1600_S512x64 slices_S512x3072_o0_2624_S512x64⟩,
    ⟨S512x64, slotHead mask x 640 1664 2688 slices_S512x3072_o0_640_S512x64 slices_S512x3072_o0_1664_S512x64 slices_S512x3072_o0_2688_S512x64⟩,
    ⟨S512x64, slotHead mask x 704 1728 2752 slices_S512x3072_o0_704_S512x64 slices_S512x3072_o0_1728_S512x64 slices_S512x3072_o0_2752_S512x64⟩,
    ⟨S512x64, slotHead mask x 768 1792 2816 slices_S512x3072_o0_768_S512x64 slices_S512x3072_o0_1792_S512x64 slices_S512x3072_o0_2816_S512x64⟩,
    ⟨S512x64, slotHead mask x 832 1856 2880 slices_S512x3072_o0_832_S512x64 slices_S512x3072_o0_1856_S512x64 slices_S512x3072_o0_2880_S512x64⟩,
    ⟨S512x64, slotHead mask x 896 1920 2944 slices_S512x3072_o0_896_S512x64 slices_S512x3072_o0_1920_S512x64 slices_S512x3072_o0_2944_S512x64⟩,
    ⟨S512x64, slotHead mask x 960 1984 3008 slices_S512x3072_o0_960_S512x64 slices_S512x3072_o0_1984_S512x64 slices_S512x3072_o0_3008_S512x64⟩] concatenates_S512x64_S512x64_S512x64_S512x64_S512x64_S512x64_S512x64_S512x64_S512x64_S512x64_S512x64_S512x64_S512x64_S512x64_S512x64_S512x64_S512x1024_d1

/-- The attention with its residual. -/
def attn (mask : IVec S512x512 1) (x : FVec F S512x3072 .f32) (ni : FVec F S512x1024 .f32) (w : Vec F S1024x1024 .f32) : FVec F S512x1024 .f32 :=
  addf (matmul dot_S512x1024_S1024x1024_S512x1024_1_0_0_1_n_n none (ctx mask x) w (constant S512x1024 .f32 0x00000000#32)) ni

/-- The router's probabilities. -/
def logits (hs : FVec F S512x1024 .f32) (wr : Vec F S1x1024x8 .f32) : FVec F S512x8 .f32 :=
  matmul dot_S512x1024_S1024x8_S512x8_1_0_0_1_n_n none hs (shapeCast S1024x8 wr shapeCasts_S1x1024x8_S1024x8) (constant S512x8 .f32 0x00000000#32)

def rowMax (x : FVec F S512x8 .f32) : FVec F S512x1 .f32 :=
  shapeCast S512x1 (multiReduction .maximumf [1] S512 x 0xFF800000#32 reduces_S512x8_S512 (.inl rfl) rfl) shapeCasts_S512_S512x1

def rowSum (x : FVec F S512x8 .f32) : FVec F S512x1 .f32 :=
  shapeCast S512x1 (multiReduction .add [1] S512 x 0x00000000#32 reduces_S512x8_S512 (.inl rfl) rfl) shapeCasts_S512_S512x1

def colSum (x : FVec F S512x8 .f32) : FVec F S1x8 .f32 :=
  shapeCast S1x8 (multiReduction .add [0] S8 x 0x00000000#32 reduces_S512x8_S8 (.inl rfl) rfl) shapeCasts_S8_S1x8

def exp8 (x : FVec F S512x8 .f32) : FVec F S512x8 .f32 :=
  exp (subf x (broadcastTo S512x8 (rowMax x) broadcasts_S512x1_S512x8))

def softmax8 (x : FVec F S512x8 .f32) : FVec F S512x8 .f32 :=
  divf (exp8 x) (broadcastTo S512x8 (rowSum (exp8 x)) broadcasts_S512x1_S512x8)

/-- The expert's number, along a row. -/
def lane : IVec S512x8 32 := iota .tc S512x8 32 [1] iota_S512x8_d1_w32

/-- The slot's number, along a row. -/
def slotNo : IVec S512x160 32 := iota .tc S512x160 32 [1] iota_S512x160_d1_w32

/-- The first place at which a row has its maximum. -/
def argMax (x : FVec F S512x8 .f32) : IVec S512x1 32 :=
  shapeCast S512x1 (multiReductionI .minsi [1] S512 (select (cmpf .oeq x (broadcastTo S512x8 (rowMax x) broadcasts_S512x1_S512x8)) lane (broadcast S512x8 8#32)) 2147483647#32 reduces_S512x8_S512 rfl) shapeCasts_S512_S512x1

/-- Where the lane is the picked one. -/
def picked (i : IVec S512x1 32) : IVec S512x8 1 := cmpi .eq lane (broadcastTo S512x8 i broadcasts_S512x1_S512x8)

/-- The picked lane as a row of zeros and a one. -/
def hot (i : IVec S512x1 32) : FVec F S512x8 .f32 := sitofp .f32 (extui 32 (picked i) natLt_1_32)

/-- The row with its picked lane set to -1. -/
def dropped (x : FVec F S512x8 .f32) (i : IVec S512x1 32) : FVec F S512x8 .f32 :=
  select (picked i) (broadcast S512x8 (Scalar.ofBits .f32 0xBF800000#32)) x

/-- The strictly lower triangle of ones. -/
def lower : FVec F S512x512 .f32 :=
  k0_pay9 (iota .tc S512x512 32 [0] iota_S512x512_d0_w32) (iota .tc S512x512 32 [1] iota_S512x512_d1_w32)

/-- The mask of the attention: the same sequence, and no later position. -/
def mask : IVec S512x512 1 :=
  k0_pay8 (iota .tc S512x512 32 [0] iota_S512x512_d0_w32) (iota .tc S512x512 32 [1] iota_S512x512_d1_w32) 64#32 k0_pay5 k0_pay6 k0_pay7

def before (x : FVec F S512x8 .f32) : FVec F S512x8 .f32 :=
  matmul dot_S512x512_S512x8_S512x8_1_0_0_1_n_n none lower x (constant S512x8 .f32 0x00000000#32)

/-- A token's place in its first expert's queue. -/
def place0 (a : FVec F S512x8 .f32) : FVec F S512x1 .f32 := rowSum (mulf (before a) a)

/-- A token's place in its second expert's queue. -/
def place1 (a b : FVec F S512x8 .f32) : FVec F S512x1 .f32 :=
  rowSum (mulf (addf (before b) (broadcastTo S512x8 (colSum a) broadcasts_S1x8_S512x8)) b)

/-- Whether a place is within the capacity. -/
def kept (p : FVec F S512x1 .f32) : FVec F S512x1 .f32 :=
  sitofp .f32 (extui 32 (cmpf .olt p (broadcast S512x1 (Scalar.ofBits .f32 0x43200000#32))) natLt_1_32)

/-- A gate over the two gates' sum. -/
def share (x a b : FVec F S512x1 .f32) : FVec F S512x1 .f32 :=
  divf x (addf (addf a b) (broadcast S512x1 (Scalar.ofBits .f32 0x3089705F#32)))

/-- One layer's count of kept tokens by expert. -/
def count (k0 : FVec F S512x1 .f32) (a : FVec F S512x8 .f32) (k1 : FVec F S512x1 .f32) (b : FVec F S512x8 .f32) : FVec F S1x8 .f32 :=
  colSum (addf (mulf (broadcastTo S512x8 k0 broadcasts_S512x1_S512x8) a) (mulf (broadcastTo S512x8 k1 broadcasts_S512x1_S512x8) b))

/-- Where a token goes among expert `e`'s slots. -/
def dispatch (e : BitVec 32) (i p : IVec S512x1 32) : FVec F S512x160 .f32 :=
  sitofp .f32 (extui 32 (andi (broadcastTo S512x160 (cmpi .eq i (broadcast S512x1 e)) broadcasts_S512x1_S512x160)
    (cmpi .eq (broadcastTo S512x160 p broadcasts_S512x1_S512x160) slotNo)) natLt_1_32)

/-- `x * (1 / (1 + exp (-x)))`. -/
def silu (x : FVec F S160x1024 .f32) : FVec F S160x1024 .f32 :=
  mulf x (divf (broadcast S160x1024 (Scalar.ofBits .f32 0x3F800000#32)) (addf (broadcast S160x1024 (Scalar.ofBits .f32 0x3F800000#32)) (exp (subf (broadcast S160x1024 (Scalar.ofBits .f32 0x00000000#32)) x))))

/-- One product of an expert. -/
def dense (x : FVec F S160x1024 .f32) (w : FVec F S1024x1024 .f32) : FVec F S160x1024 .f32 :=
  matmul dot_S160x1024_S1024x1024_S160x1024_1_0_0_1_n_n none x w (constant S160x1024 .f32 0x00000000#32)

/-- One expert on the tokens dispatched to it, combined back. -/
def expert (hs : FVec F S512x1024 .f32) (a b : FVec F S512x160 .f32) (g0 g1 : FVec F S512x1 .f32) (w1 w2 : FVec F S1024x1024 .f32) : FVec F S512x1024 .f32 :=
  matmul dot_S512x160_S160x1024_S512x1024_1_0_0_1_n_n none
    (addf (mulf (broadcastTo S512x160 g0 broadcasts_S512x1_S512x160) a) (mulf (broadcastTo S512x160 g1 broadcasts_S512x1_S512x160) b))
    (dense (silu (dense (matmul dot_S512x160_S512x1024_S160x1024_0_0_1_1_n_n none (addf a b) hs (constant S160x1024 .f32 0x00000000#32)) w1)) w2)
    (constant S512x1024 .f32 0x00000000#32)

/-- The eight experts' sum. -/
def experts (hs : FVec F S512x1024 .f32) (i0 p0 i1 p1 : IVec S512x1 32) (g0 g1 : FVec F S512x1 .f32) (w1 w2 : Fin 8 → FVec F S1024x1024 .f32) : FVec F S512x1024 .f32 :=
  let y (e : Fin 8) (k : BitVec 32) := expert hs (dispatch k i0 p0) (dispatch k i1 p1) g0 g1 (w1 e) (w2 e)
  addf (addf (addf (addf (addf (addf (addf (y 0 0#32) (y 1 1#32)) (y 2 2#32)) (y 3 3#32)) (y 4 4#32)) (y 5 5#32)) (y 6 6#32)) (y 7 7#32)

/-- The first pick of a row of probabilities. -/
def pick0 (p : FVec F S512x8 .f32) : IVec S512x1 32 := argMax p

/-- The second pick. -/
def pick1 (p : FVec F S512x8 .f32) : IVec S512x1 32 := argMax (dropped p (pick0 p))

/-- The row maxima at the two picks. -/
def gate0 (p : FVec F S512x8 .f32) : FVec F S512x1 .f32 := rowMax p

def gate1 (p : FVec F S512x8 .f32) : FVec F S512x1 .f32 := rowMax (dropped p (pick0 p))

def at0 (p : FVec F S512x8 .f32) : FVec F S512x1 .f32 := place0 (hot (pick0 p))

def at1 (p : FVec F S512x8 .f32) : FVec F S512x1 .f32 := place1 (hot (pick0 p)) (hot (pick1 p))

/-- The layer's counts from its probabilities. -/
def counts (p : FVec F S512x8 .f32) : FVec F S1x8 .f32 :=
  count (kept (at0 p)) (hot (pick0 p)) (kept (at1 p)) (hot (pick1 p))

/-- The experts' layer from the normalized rows and the probabilities. -/
def moe (hs : FVec F S512x1024 .f32) (p : FVec F S512x8 .f32) (w1 w2 : Fin 8 → FVec F S1024x1024 .f32) : FVec F S512x1024 .f32 :=
  experts hs (pick0 p) (fptosi 32 (at0 p)) (pick1 p) (fptosi 32 (at1 p))
    (mulf (kept (at0 p)) (share (gate0 p) (gate0 p) (gate1 p))) (mulf (kept (at1 p)) (share (gate1 p) (gate0 p) (gate1 p))) w1 w2

/-- A layer's rows after the attention's residual and the second norm. -/
def mid (h : FVec F S512x1024 .f32) (ln1 : Vec F S1x1024 .f32) (qkvW : Vec F S1024x3072 .f32) (oW : Vec F S1024x1024 .f32) (ln2 : Vec F S1x1024 .f32) : FVec F S512x1024 .f32 :=
  rms (attn mask (proj (rms h ln1) qkvW) (rms h ln1) oW) ln2

/-- A layer's probabilities. -/
def probs (hs : FVec F S512x1024 .f32) (wr : Vec F S1x1024x8 .f32) : FVec F S512x8 .f32 := softmax8 (logits hs wr)

/-- A layer's result from its rows after the second norm. -/
def next (hs : FVec F S512x1024 .f32) (wr : Vec F S1x1024x8 .f32) (w1 w2 : Fin 8 → FVec F S1024x1024 .f32) : FVec F S512x1024 .f32 :=
  addf (mulf (broadcast S512x1024 (Scalar.ofBits .f32 0x40000000#32)) hs) (moe hs (probs hs wr) w1 w2)

/-- The counts after both layers. -/
def total (p q : FVec F S512x8 .f32) : FVec F S8 .f32 :=
  shapeCast S8 (addf (addf (broadcast S1x8 (Scalar.ofBits .f32 0x00000000#32)) (counts p)) (counts q)) shapeCasts_S1x8_S8

/-- The first result from the last rows. -/
def out1 (h : FVec F S512x1024 .f32) (w : Vec F S1024x1 .f32) (b : Vec F S1 .f32) : FVec F S8x64x1 .f32 :=
  shapeCast S8x64x1 (addf (matmul dot_S512x1024_S1024x1_S512x1_1_0_0_1_n_n none h w (constant S512x1 .f32 0x00000000#32)) (broadcastTo S512x1 (shapeCast S1x1 b shapeCasts_S1_S1x1) broadcasts_S1x1_S512x1)) shapeCasts_S512x1_S8x64x1

end Cert.KernelIdeal.Model

end
-- ==== Proof.Loads.lean ====
/- What the kernel's loads read of its arguments. -/
module

public import proofs.«01_k».proof.Proof.Model
public import Idealize.ShloMosaic.Lib.Pointwise
public import Idealize.ShloMosaic.Lib.VecWindow

@[expose] public section

set_option maxRecDepth 16384

noncomputable section

namespace Cert.KernelIdeal.Model

open Cert.KernelIdeal.Gen
open Idealize.ShloMosaic

variable {F : FTy → Type} [FloatOps F]

/-- A layer's row of norm weights. -/
def ln (l : Fin 2) (x : Vec F S2x1024 .f32) : Vec F S1x1024 .f32 := fun j => x (ix2 l (j 1))

/-- A layer's router. -/
def wr (l : Fin 2) (x : Vec F S2x1024x8 .f32) : Vec F S1x1024x8 .f32 := fun j => x (ix3 l (j 1) (j 2))

/-- A layer's projection. -/
def wqkv (l : Fin 2) (x : Vec F S2x1024x3072 .f32) : Vec F S1024x3072 .f32 := fun j => x (ix3 l (j 0) (j 1))

/-- A layer's output projection. -/
def wo (l : Fin 2) (x : Vec F S2x1024x1024 .f32) : Vec F S1024x1024 .f32 := fun j => x (ix3 l (j 0) (j 1))

/-- A layer's expert. -/
def wx (l : Fin 2) (x : Vec F S2x8x1024x1024 .f32) (e : Fin 8) : Vec F S1024x1024 .f32 := fun j => x (ix4 l e (j 0) (j 1))

theorem ln_load (a : Memref sig .tc .vmem S2x1024 .f32) (h : a.IsWhole) (x : Vec F S2x1024 .f32) (l : Fin 2)
    (inb : ∀ k, (![l.val, 0] : Fin 2 → ℕ) k + S1x1024.size k ≤ S2x1024.size k) :
    View.readAt (Elt F) a.view (Rect.unit (s := S2x1024) ![l.val, 0] S1x1024.size inb).toLoadRect (h.unread x) = ln l x := by
  funext j
  rw [View.readAt_apply, h.read_unread]
  refine congrArg x (funext fun k => Fin.ext ?_)
  have h0 : (j 0).val < 1 := (j 0).isLt
  fin_cases k
  · show l.val + 1 * (j 0).val = l.val; omega
  · show 0 + 1 * (j 1).val = (j 1).val; omega

theorem wr_load (a : Memref sig .tc .vmem S2x1024x8 .f32) (h : a.IsWhole) (x : Vec F S2x1024x8 .f32) (l : Fin 2)
    (inb : ∀ k, (![l.val, 0, 0] : Fin 3 → ℕ) k + S1x1024x8.size k ≤ S2x1024x8.size k) :
    View.readAt (Elt F) a.view (Rect.unit (s := S2x1024x8) ![l.val, 0, 0] S1x1024x8.size inb).toLoadRect (h.unread x) = wr l x := by
  funext j
  rw [View.readAt_apply, h.read_unread]
  refine congrArg x (funext fun k => Fin.ext ?_)
  have h0 : (j 0).val < 1 := (j 0).isLt
  fin_cases k
  · show l.val + 1 * (j 0).val = l.val; omega
  · show 0 + 1 * (j 1).val = (j 1).val; omega
  · show 0 + 1 * (j 2).val = (j 2).val; omega

/-- A load of the whole of an argument. -/
theorem full_load {s : Shape} (a : Memref sig .tc .vmem s .f32) (h : a.IsWhole) (x : Vec F s .f32) (off : Fin s.rank → ℕ)
    (inb : ∀ k, off k + s.size k ≤ s.size k) :
    View.readAt (Elt F) a.view (Rect.unit (s := s) off s.size inb).toLoadRect (h.unread x) = x := by
  funext j
  rw [View.readAt_apply, h.read_unread]
  exact congrArg x (funext fun k => Fin.ext (by
    show off k + 1 * (j k).val = (j k).val
    have := inb k; omega))

/-- A covered load of the whole after a store of the whole reads what was stored. -/
theorem cov_whole {s : Shape} [∀ e, Nonempty (Elt F e)] (v : View sig .tc .vmem s .f32) (w : (Rect.whole s).shape.Idx → Elt F .f32) (L : List (View.Piece (Elt F) s .f32)) (off : Fin s.rank → ℕ)
    (inb : ∀ k, off k + s.size k ≤ s.size k) :
    v.readCov (⟨Rect.whole s, w⟩ :: L) (Rect.unit (s := s) off s.size inb).toLoadRect = w := by
  have e : off = fun _ => 0 := funext fun k => by have := inb k; omega
  subst e
  exact View.readCov_full v inb (fun _ => by simp) w L

/-- A load of a slot just written reads what was written. -/
theorem slot_hit (a : Memref sig .tc .vmem S3x1024x1024 .f32) (k : ℕ) (inb inb' : ∀ i, (![k, 0, 0] : Fin 3 → ℕ) i + S1x1024x1024.size i ≤ S3x1024x1024.size i)
    (hs : ∀ i, (Rect.unit (s := S3x1024x1024) ![k, 0, 0] S1x1024x1024.size inb').stride i = 1) (hq : (Rect.unit (s := S3x1024x1024) ![k, 0, 0] S1x1024x1024.size inb').shape.Squeezes S1024x1024)
    (f : a.view.ty.Contents (Elt F)) (w : S1024x1024.Idx → Elt F .f32) (hc : S1x1024x1024.ShapeCasts S1024x1024) :
    shapeCast S1024x1024 (View.readAt (Elt F) a.view (Rect.unit (s := S3x1024x1024) ![k, 0, 0] S1x1024x1024.size inb).toLoadRect
      (View.write (Elt F) ((a.slice (Rect.unit (s := S3x1024x1024) ![k, 0, 0] S1x1024x1024.size inb') hs).squeeze S1024x1024 hq).view f w Finset.univ)) hc = w :=
  View.read_write_univ (v := ((a.slice (Rect.unit (s := S3x1024x1024) ![k, 0, 0] S1x1024x1024.size inb') hs).squeeze S1024x1024 hq).view) f w

/-- A load of a slot reads past a write of another. -/
theorem slot_miss (a : Memref sig .tc .vmem S3x1024x1024 .f32) (k k' : ℕ) (hk : k ≠ k') (inb : ∀ i, (![k, 0, 0] : Fin 3 → ℕ) i + S1x1024x1024.size i ≤ S3x1024x1024.size i)
    (inb' : ∀ i, (![k', 0, 0] : Fin 3 → ℕ) i + S1x1024x1024.size i ≤ S3x1024x1024.size i)
    (hs : ∀ i, (Rect.unit (s := S3x1024x1024) ![k', 0, 0] S1x1024x1024.size inb').stride i = 1) (hq : (Rect.unit (s := S3x1024x1024) ![k', 0, 0] S1x1024x1024.size inb').shape.Squeezes S1024x1024)
    (f : a.view.ty.Contents (Elt F)) (w : S1024x1024.Idx → Elt F .f32) :
    View.readAt (Elt F) a.view (Rect.unit (s := S3x1024x1024) ![k, 0, 0] S1x1024x1024.size inb).toLoadRect
      (View.write (Elt F) ((a.slice (Rect.unit (s := S3x1024x1024) ![k', 0, 0] S1x1024x1024.size inb') hs).squeeze S1024x1024 hq).view f w Finset.univ)
    = View.readAt (Elt F) a.view (Rect.unit (s := S3x1024x1024) ![k, 0, 0] S1x1024x1024.size inb).toLoadRect f := by
  funext j
  rw [View.readAt_apply, View.readAt_apply]
  refine View.read_congr_at _ ?_
  refine View.write_of_not_mem _ _ _ fun hm => ?_
  obtain ⟨y, -, hy⟩ := Finset.mem_map.mp hm
  have e := a.view.emb.injective hy
  have e0 := congrArg Fin.val (congrFun e 0)
  have h0 : (j 0).val < 1 := (j 0).isLt
  have z0 : ∀ z : (Rect.unit (s := S3x1024x1024) ![k', 0, 0] S1x1024x1024.size inb').shape.Idx,
      (((Rect.unit (s := S3x1024x1024) ![k', 0, 0] S1x1024x1024.size inb').emb z) 0).val = k' := fun z => by
    have h1 : (z 0).val < 1 := (z 0).isLt
    show k' + 1 * (z 0).val = k'; omega
  have e1 : k' = k + 1 * (j 0).val := (z0 _).symm.trans e0
  omega

/-- A read of one expert's slice. -/
theorem wx_read (x : Vec F S2x8x1024x1024 .f32) (l : Fin 2) (e : Fin 8)
    (inb : ∀ k, (![l.val, e.val, 0, 0] : Fin 4 → ℕ) k + S1x1x1024x1024.size k ≤ S2x8x1024x1024.size k) (hc : S1x1x1024x1024.ShapeCasts S1024x1024) :
    shapeCast S1024x1024 (fun j => x ((Rect.unit (s := S2x8x1024x1024) ![l.val, e.val, 0, 0] S1x1x1024x1024.size inb).emb j) : Vec F S1x1x1024x1024 .f32) hc = wx l x e := by
  have e1 : (fun j => x ((Rect.unit (s := S2x8x1024x1024) ![l.val, e.val, 0, 0] S1x1x1024x1024.size inb).emb j) : Vec F S1x1x1024x1024 .f32)
      = fun j => x (ix4 l e (j 2) (j 3)) := by
    funext j
    refine congrArg x (funext fun k => Fin.ext ?_)
    have h0 : (j 0).val < 1 := (j 0).isLt
    have h1 : (j 1).val < 1 := (j 1).isLt
    fin_cases k
    · show l.val + 1 * (j 0).val = l.val; omega
    · show e.val + 1 * (j 1).val = e.val; omega
    · show 0 + 1 * (j 2).val = (j 2).val; omega
    · show 0 + 1 * (j 3).val = (j 3).val; omega
  rw [e1]
  funext j
  idx_vars j
  pointwise [wx]

theorem wqkv_read (x : Vec F S2x1024x3072 .f32) (l : Fin 2)
    (inb : ∀ k, (![l.val, 0, 0] : Fin 3 → ℕ) k + S1x1024x3072.size k ≤ S2x1024x3072.size k) (hc : S1x1024x3072.ShapeCasts S1024x3072) :
    shapeCast S1024x3072 (fun j => x ((Rect.unit (s := S2x1024x3072) ![l.val, 0, 0] S1x1024x3072.size inb).emb j) : Vec F S1x1024x3072 .f32) hc = wqkv l x := by
  have e1 : (fun j => x ((Rect.unit (s := S2x1024x3072) ![l.val, 0, 0] S1x1024x3072.size inb).emb j) : Vec F S1x1024x3072 .f32)
      = fun j => x (ix3 l (j 1) (j 2)) := by
    funext j
    refine congrArg x (funext fun k => Fin.ext ?_)
    have h0 : (j 0).val < 1 := (j 0).isLt
    fin_cases k
    · show l.val + 1 * (j 0).val = l.val; omega
    · show 0 + 1 * (j 1).val = (j 1).val; omega
    · show 0 + 1 * (j 2).val = (j 2).val; omega
  rw [e1]
  funext j
  idx_vars j
  pointwise [wqkv]

theorem wo_read (x : Vec F S2x1024x1024 .f32) (l : Fin 2)
    (inb : ∀ k, (![l.val, 0, 0] : Fin 3 → ℕ) k + S1x1024x1024.size k ≤ S2x1024x1024.size k) (hc : S1x1024x1024.ShapeCasts S1024x1024) :
    shapeCast S1024x1024 (fun j => x ((Rect.unit (s := S2x1024x1024) ![l.val, 0, 0] S1x1024x1024.size inb).emb j) : Vec F S1x1024x1024 .f32) hc = wo l x := by
  have e1 : (fun j => x ((Rect.unit (s := S2x1024x1024) ![l.val, 0, 0] S1x1024x1024.size inb).emb j) : Vec F S1x1024x1024 .f32)
      = fun j => x (ix3 l (j 1) (j 2)) := by
    funext j
    refine congrArg x (funext fun k => Fin.ext ?_)
    have h0 : (j 0).val < 1 := (j 0).isLt
    fin_cases k
    · show l.val + 1 * (j 0).val = l.val; omega
    · show 0 + 1 * (j 1).val = (j 1).val; omega
    · show 0 + 1 * (j 2).val = (j 2).val; omega
  rw [e1]
  funext j
  idx_vars j
  pointwise [wo]

/-- The rows after the embedding. -/
def emb (x0 : Vec F S512x32 .f32) (x1 x2 : Vec F S32x1024 .f32) : FVec F S512x1024 .f32 := k0_pay4 x0 x2 x1

variable [Named F]

/-- A layer's rows after its second norm. -/
def rows (l : Fin 2) (h : FVec F S512x1024 .f32) (x3 x4 : Vec F S2x1024 .f32) (q : Vec F S2x1024x3072 .f32) (o : Vec F S2x1024x1024 .f32) : FVec F S512x1024 .f32 :=
  mid h (ln l x3) (wqkv l q) (wo l o) (ln l x4)

/-- A layer. -/
def layer (l : Fin 2) (h : FVec F S512x1024 .f32) (x3 x4 : Vec F S2x1024 .f32) (x5 : Vec F S2x1024x8 .f32) (q : Vec F S2x1024x3072 .f32) (o : Vec F S2x1024x1024 .f32)
    (a b : Vec F S2x8x1024x1024 .f32) : FVec F S512x1024 .f32 :=
  next (rows l h x3 x4 q o) (wr l x5) (wx l a) (wx l b)

/-- The rows after both layers. -/
def last (x0 : Vec F S512x32 .f32) (x1 x2 : Vec F S32x1024 .f32) (x3 x4 : Vec F S2x1024 .f32) (x5 : Vec F S2x1024x8 .f32) (q : Vec F S2x1024x3072 .f32) (o : Vec F S2x1024x1024 .f32)
    (a b : Vec F S2x8x1024x1024 .f32) : FVec F S512x1024 .f32 :=
  layer 1 (layer 0 (emb x0 x1 x2) x3 x4 x5 q o a b) x3 x4 x5 q o a b

/-- The counts. -/
def stats (x0 : Vec F S512x32 .f32) (x1 x2 : Vec F S32x1024 .f32) (x3 x4 : Vec F S2x1024 .f32) (x5 : Vec F S2x1024x8 .f32) (q : Vec F S2x1024x3072 .f32) (o : Vec F S2x1024x1024 .f32)
    (a b : Vec F S2x8x1024x1024 .f32) : FVec F S8 .f32 :=
  total (probs (rows 0 (emb x0 x1 x2) x3 x4 q o) (wr 0 x5)) (probs (rows 1 (layer 0 (emb x0 x1 x2) x3 x4 x5 q o a b) x3 x4 q o) (wr 1 x5))

/-- The second result from the last rows. -/
def out8 (h : FVec F S512x1024 .f32) (w : Vec F S1024x8 .f32) (b : Vec F S8 .f32) : FVec F S8x64x8 .f32 :=
  k0_pay179 h w (constant S512x8 .f32 0x00000000#32) b

end Cert.KernelIdeal.Model

end
-- ==== Proof.KOut.lean ====
/- The kernel body's five results as functions of the arguments. -/
module

public import proofs.«01_k».proof.Proof.Run
public import proofs.«01_k».proof.Proof.Loads

@[expose] public section

set_option maxRecDepth 16384

noncomputable section

namespace Cert.KernelIdeal.Body

open Cert.KernelIdeal.Gen Cert.KernelIdeal.Model
open Idealize.ShloMosaic

variable {F : FTy → Type} [FloatOps F] [Named F]

variable (c : Dev nD) (arg0 : Memref sig .tc .vmem S512x32 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x1024x8 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1024x8 .f32) (harg8 : arg8.IsWhole) (arg9 : Memref sig .tc .vmem S8 .f32) (harg9 : arg9.IsWhole) (arg10 : Memref sig .tc .vmem S1024x32 .f32) (harg10 : arg10.IsWhole) (arg11 : Memref sig .tc .vmem S32 .f32) (harg11 : arg11.IsWhole) (arg12 : Memref sig .tc .vmem S1024x64 .f32) (harg12 : arg12.IsWhole) (arg13 : Memref sig .tc .vmem S64 .f32) (harg13 : arg13.IsWhole) (arg18 : Memref sig .tc .vmem S8x64x1 .f32) (harg18 : arg18.IsWhole) (arg19 : Memref sig .tc .vmem S8x64x8 .f32) (harg19 : arg19.IsWhole) (arg20 : Memref sig .tc .vmem S8x64x32 .f32) (harg20 : arg20.IsWhole) (arg21 : Memref sig .tc .vmem S8x64x64 .f32) (harg21 : arg21.IsWhole) (arg22 : Memref sig .tc .vmem S8 .f32) (harg22 : arg22.IsWhole) (arg23 : Memref sig .tc .vmem S1024x3072 .f32) (harg23 : arg23.IsWhole) (arg24 : Memref sig .tc .vmem S1024x1024 .f32) (harg24 : arg24.IsWhole) (arg25 : Memref sig .tc .vmem S3x1024x1024 .f32) (harg25 : arg25.IsWhole) (arg26 : Memref sig .tc .vmem S3x1024x1024 .f32) (harg26 : arg26.IsWhole)
    (x0 : Vec F S512x32 .f32) (x1 : Vec F S32x1024 .f32) (x2 : Vec F S32x1024 .f32) (x3 : Vec F S2x1024 .f32) (x4 : Vec F S2x1024 .f32) (x5 : Vec F S2x1024x8 .f32) (x6 : Vec F S1024x1 .f32) (x7 : Vec F S1 .f32) (x8 : Vec F S1024x8 .f32) (x9 : Vec F S8 .f32) (x10 : Vec F S1024x32 .f32) (x11 : Vec F S32 .f32) (x12 : Vec F S1024x64 .f32) (x13 : Vec F S64 .f32) (fh0 : HbBuf0 (F := F) c hbM0_0) (fh1 : HbBuf0 (F := F) c hbM0_1) (fh2 : HbBuf0 (F := F) c hbM0_2) (fh3 : HbBuf0 (F := F) c hbM0_3)
    (fs0 : arg23.view.ty.Contents (Elt F)) (fs1 : arg24.view.ty.Contents (Elt F)) (fs2 : arg25.view.ty.Contents (Elt F)) (fs3 : arg26.view.ty.Contents (Elt F))

set_option maxHeartbeats 2000000

/-- The loads of layer 0's first expert matrices. -/
theorem slots0_1 :
    shapeCast S1024x1024 (run.sl.v545 c arg25 fh2 fs2) shapeCasts_S1x1024x1024_S1024x1024 = wx 0 fh2 0 ∧
    shapeCast S1024x1024 (run.sl.v607 c arg25 fh2 fs2) shapeCasts_S1x1024x1024_S1024x1024 = wx 0 fh2 1 ∧
    shapeCast S1024x1024 (run.sl.v670 c arg25 fh2 fs2) shapeCasts_S1x1024x1024_S1024x1024 = wx 0 fh2 2 ∧
    shapeCast S1024x1024 (run.sl.v733 c arg25 fh2 fs2) shapeCasts_S1x1024x1024_S1024x1024 = wx 0 fh2 3 ∧
    shapeCast S1024x1024 (run.sl.v796 c arg25 fh2 fs2) shapeCasts_S1x1024x1024_S1024x1024 = wx 0 fh2 4 ∧
    shapeCast S1024x1024 (run.sl.v859 c arg25 fh2 fs2) shapeCasts_S1x1024x1024_S1024x1024 = wx 0 fh2 5 ∧
    shapeCast S1024x1024 (run.sl.v914 c arg25 fh2 fs2) shapeCasts_S1x1024x1024_S1024x1024 = wx 0 fh2 6 ∧
    shapeCast S1024x1024 (run.sl.v965 c arg25 fh2 fs2) shapeCasts_S1x1024x1024_S1024x1024 = wx 0 fh2 7 := by
  delta run.sl.v545 run.sl.v607 run.sl.v670 run.sl.v733 run.sl.v796 run.sl.v859 run.sl.v914 run.sl.v965
  refine ⟨?_, ?_, ?_, ?_, ?_, ?_, ?_, ?_⟩
  all_goals
    repeat (first | rw [slot_hit] | (rw [slot_miss]; rotate_left; decide))
  exacts [wx_read (F := F) fh2 0 0 (by decide) (by decide), wx_read (F := F) fh2 0 1 (by decide) (by decide), wx_read (F := F) fh2 0 2 (by decide) (by decide), wx_read (F := F) fh2 0 3 (by decide) (by decide), wx_read (F := F) fh2 0 4 (by decide) (by decide), wx_read (F := F) fh2 0 5 (by decide) (by decide), wx_read (F := F) fh2 0 6 (by decide) (by decide), wx_read (F := F) fh2 0 7 (by decide) (by decide)]

/-- The loads of layer 0's second expert matrices. -/
theorem slots0_2 :
    shapeCast S1024x1024 (run.sl.v556 c arg26 fh3 fs3) shapeCasts_S1x1024x1024_S1024x1024 = wx 0 fh3 0 ∧
    shapeCast S1024x1024 (run.sl.v618 c arg26 fh3 fs3) shapeCasts_S1x1024x1024_S1024x1024 = wx 0 fh3 1 ∧
    shapeCast S1024x1024 (run.sl.v681 c arg26 fh3 fs3) shapeCasts_S1x1024x1024_S1024x1024 = wx 0 fh3 2 ∧
    shapeCast S1024x1024 (run.sl.v744 c arg26 fh3 fs3) shapeCasts_S1x1024x1024_S1024x1024 = wx 0 fh3 3 ∧
    shapeCast S1024x1024 (run.sl.v807 c arg26 fh3 fs3) shapeCasts_S1x1024x1024_S1024x1024 = wx 0 fh3 4 ∧
    shapeCast S1024x1024 (run.sl.v870 c arg26 fh3 fs3) shapeCasts_S1x1024x1024_S1024x1024 = wx 0 fh3 5 ∧
    shapeCast S1024x1024 (run.sl.v925 c arg26 fh3 fs3) shapeCasts_S1x1024x1024_S1024x1024 = wx 0 fh3 6 ∧
    shapeCast S1024x1024 (run.sl.v976 c arg26 fh3 fs3) shapeCasts_S1x1024x1024_S1024x1024 = wx 0 fh3 7 := by
  delta run.sl.v556 run.sl.v618 run.sl.v681 run.sl.v744 run.sl.v807 run.sl.v870 run.sl.v925 run.sl.v976
  refine ⟨?_, ?_, ?_, ?_, ?_, ?_, ?_, ?_⟩
  all_goals
    repeat (first | rw [slot_hit] | (rw [slot_miss]; rotate_left; decide))
  exacts [wx_read (F := F) fh3 0 0 (by decide) (by decide), wx_read (F := F) fh3 0 1 (by decide) (by decide), wx_read (F := F) fh3 0 2 (by decide) (by decide), wx_read (F := F) fh3 0 3 (by decide) (by decide), wx_read (F := F) fh3 0 4 (by decide) (by decide), wx_read (F := F) fh3 0 5 (by decide) (by decide), wx_read (F := F) fh3 0 6 (by decide) (by decide), wx_read (F := F) fh3 0 7 (by decide) (by decide)]

/-- The loads of layer 1's first expert matrices. -/
theorem slots1_1 :
    shapeCast S1024x1024 (run.sl.v1456 c arg25 fh2 fs2) shapeCasts_S1x1024x1024_S1024x1024 = wx 1 fh2 0 ∧
    shapeCast S1024x1024 (run.sl.v1518 c arg25 fh2 fs2) shapeCasts_S1x1024x1024_S1024x1024 = wx 1 fh2 1 ∧
    shapeCast S1024x1024 (run.sl.v1581 c arg25 fh2 fs2) shapeCasts_S1x1024x1024_S1024x1024 = wx 1 fh2 2 ∧
    shapeCast S1024x1024 (run.sl.v1644 c arg25 fh2 fs2) shapeCasts_S1x1024x1024_S1024x1024 = wx 1 fh2 3 ∧
    shapeCast S1024x1024 (run.sl.v1707 c arg25 fh2 fs2) shapeCasts_S1x1024x1024_S1024x1024 = wx 1 fh2 4 ∧
    shapeCast S1024x1024 (run.sl.v1770 c arg25 fh2 fs2) shapeCasts_S1x1024x1024_S1024x1024 = wx 1 fh2 5 ∧
    shapeCast S1024x1024 (run.sl.v1821 c arg25 fh2 fs2) shapeCasts_S1x1024x1024_S1024x1024 = wx 1 fh2 6 ∧
    shapeCast S1024x1024 (run.sl.v1872 c arg25 fh2 fs2) shapeCasts_S1x1024x1024_S1024x1024 = wx 1 fh2 7 := by
  delta run.sl.v1456 run.sl.v1518 run.sl.v1581 run.sl.v1644 run.sl.v1707 run.sl.v1770 run.sl.v1821 run.sl.v1872
  refine ⟨?_, ?_, ?_, ?_, ?_, ?_, ?_, ?_⟩
  all_goals
    repeat (first | rw [slot_hit] | (rw [slot_miss]; rotate_left; decide))
  exacts [wx_read (F := F) fh2 1 0 (by decide) (by decide), wx_read (F := F) fh2 1 1 (by decide) (by decide), wx_read (F := F) fh2 1 2 (by decide) (by decide), wx_read (F := F) fh2 1 3 (by decide) (by decide), wx_read (F := F) fh2 1 4 (by decide) (by decide), wx_read (F := F) fh2 1 5 (by decide) (by decide), wx_read (F := F) fh2 1 6 (by decide) (by decide), wx_read (F := F) fh2 1 7 (by decide) (by decide)]

/-- The loads of layer 1's second expert matrices. -/
theorem slots1_2 :
    shapeCast S1024x1024 (run.sl.v1467 c arg26 fh3 fs3) shapeCasts_S1x1024x1024_S1024x1024 = wx 1 fh3 0 ∧
    shapeCast S1024x1024 (run.sl.v1529 c arg26 fh3 fs3) shapeCasts_S1x1024x1024_S1024x1024 = wx 1 fh3 1 ∧
    shapeCast S1024x1024 (run.sl.v1592 c arg26 fh3 fs3) shapeCasts_S1x1024x1024_S1024x1024 = wx 1 fh3 2 ∧
    shapeCast S1024x1024 (run.sl.v1655 c arg26 fh3 fs3) shapeCasts_S1x1024x1024_S1024x1024 = wx 1 fh3 3 ∧
    shapeCast S1024x1024 (run.sl.v1718 c arg26 fh3 fs3) shapeCasts_S1x1024x1024_S1024x1024 = wx 1 fh3 4 ∧
    shapeCast S1024x1024 (run.sl.v1781 c arg26 fh3 fs3) shapeCasts_S1x1024x1024_S1024x1024 = wx 1 fh3 5 ∧
    shapeCast S1024x1024 (run.sl.v1832 c arg26 fh3 fs3) shapeCasts_S1x1024x1024_S1024x1024 = wx 1 fh3 6 ∧
    shapeCast S1024x1024 (run.sl.v1883 c arg26 fh3 fs3) shapeCasts_S1x1024x1024_S1024x1024 = wx 1 fh3 7 := by
  delta run.sl.v1467 run.sl.v1529 run.sl.v1592 run.sl.v1655 run.sl.v1718 run.sl.v1781 run.sl.v1832 run.sl.v1883
  refine ⟨?_, ?_, ?_, ?_, ?_, ?_, ?_, ?_⟩
  all_goals
    repeat (first | rw [slot_hit] | (rw [slot_miss]; rotate_left; decide))
  exacts [wx_read (F := F) fh3 1 0 (by decide) (by decide), wx_read (F := F) fh3 1 1 (by decide) (by decide), wx_read (F := F) fh3 1 2 (by decide) (by decide), wx_read (F := F) fh3 1 3 (by decide) (by decide), wx_read (F := F) fh3 1 4 (by decide) (by decide), wx_read (F := F) fh3 1 5 (by decide) (by decide), wx_read (F := F) fh3 1 6 (by decide) (by decide), wx_read (F := F) fh3 1 7 (by decide) (by decide)]

/-- The embedding. -/
theorem v42_eq : (run.sl.v42 c arg0 harg0 arg1 harg1 arg2 harg2 x0 x1 x2) = emb x0 x1 x2 := by
  have e : (run.sl.v42 c arg0 harg0 arg1 harg1 arg2 harg2 x0 x1 x2) = k0_pay4 (View.readAt (Elt F) arg0.view (Rect.unit (s := S512x32) ![0, 0] S512x32.size inb_S512x32_S512x32_0_0).toLoadRect (harg0.unread x0))
    (View.readAt (Elt F) arg2.view (Rect.unit (s := S32x1024) ![0, 0] S32x1024.size inb_S32x1024_S32x1024_0_0).toLoadRect (harg2.unread x2))
    (View.readAt (Elt F) arg1.view (Rect.unit (s := S32x1024) ![0, 0] S32x1024.size inb_S32x1024_S32x1024_0_0).toLoadRect (harg1.unread x1)) := rfl
  rw [e, full_load, full_load, full_load]; rfl

/-- A projection, as loaded. -/
theorem v117_eq : (run.sl.v117 c arg23 fh0) = wqkv 0 fh0 := by
  delta run.sl.v117
  rw [cov_whole]
  exact wqkv_read (F := F) fh0 0 (by decide) (by decide)

/-- A projection, as loaded. -/
theorem v410_eq : (run.sl.v410 c arg24 fh1) = wo 0 fh1 := by
  delta run.sl.v410
  rw [cov_whole]
  exact wo_read (F := F) fh1 0 (by decide) (by decide)

/-- A projection, as loaded. -/
theorem v1028_eq : (run.sl.v1028 c arg23 fh0) = wqkv 1 fh0 := by
  delta run.sl.v1028
  rw [cov_whole]
  exact wqkv_read (F := F) fh0 1 (by decide) (by decide)

/-- A projection, as loaded. -/
theorem v1321_eq : (run.sl.v1321 c arg24 fh1) = wo 1 fh1 := by
  delta run.sl.v1321
  rw [cov_whole]
  exact wo_read (F := F) fh1 1 (by decide) (by decide)

/-- The normalized rows. -/
theorem r_eq : (run.sl.r c arg0 harg0 arg1 harg1 arg2 harg2 arg3 harg3 x0 x1 x2 x3) = rms (run.sl.v42 c arg0 harg0 arg1 harg1 arg2 harg2 x0 x1 x2) (ln 0 x3) := by
  rw [← ln_load arg3 harg3 x3 0 inb_S2x1024_S1x1024_0_0]; rfl

/-- The queries, keys and values. -/
theorem r_1_eq : (run.sl.r_1 c arg0 harg0 arg1 harg1 arg2 harg2 arg3 harg3 arg23 x0 x1 x2 x3 fh0) = proj (run.sl.r c arg0 harg0 arg1 harg1 arg2 harg2 arg3 harg3 x0 x1 x2 x3) (wqkv 0 fh0) := by
  rw [← v117_eq c arg23 fh0]; rfl

/-- The attention with its residual. -/
theorem r_34_eq : (run.sl.r_34 c arg0 harg0 arg1 harg1 arg2 harg2 arg3 harg3 arg23 arg24 x0 x1 x2 x3 fh0 fh1) = (attn Model.mask (run.sl.r_1 c arg0 harg0 arg1 harg1 arg2 harg2 arg3 harg3 arg23 x0 x1 x2 x3 fh0) (run.sl.r c arg0 harg0 arg1 harg1 arg2 harg2 arg3 harg3 x0 x1 x2 x3) (wo 0 fh1)) := by
  rw [← v410_eq c arg24 fh1]; rfl

/-- The rows after the second norm. -/
theorem v425_eq : (run.sl.v425 c arg0 harg0 arg1 harg1 arg2 harg2 arg3 harg3 arg4 harg4 arg23 arg24 x0 x1 x2 x3 x4 fh0 fh1) = rms (run.sl.r_34 c arg0 harg0 arg1 harg1 arg2 harg2 arg3 harg3 arg23 arg24 x0 x1 x2 x3 fh0 fh1) (ln 0 x4) := by
  rw [← ln_load arg4 harg4 x4 0 inb_S2x1024_S1x1024_0_0]; rfl

/-- The router's probabilities. -/
theorem v437_eq : (run.sl.v437 c arg0 harg0 arg1 harg1 arg2 harg2 arg3 harg3 arg4 harg4 arg5 harg5 arg23 arg24 x0 x1 x2 x3 x4 x5 fh0 fh1) = probs (run.sl.v425 c arg0 harg0 arg1 harg1 arg2 harg2 arg3 harg3 arg4 harg4 arg23 arg24 x0 x1 x2 x3 x4 fh0 fh1) (wr 0 x5) := by
  rw [← wr_load arg5 harg5 x5 0 inb_S2x1024x8_S1x1024x8_0_0_0]; rfl

/-- The first pick. -/
theorem v445_eq : (run.sl.v445 c arg0 harg0 arg1 harg1 arg2 harg2 arg3 harg3 arg4 harg4 arg5 harg5 arg23 arg24 x0 x1 x2 x3 x4 x5 fh0 fh1) = pick0 (run.sl.v437 c arg0 harg0 arg1 harg1 arg2 harg2 arg3 harg3 arg4 harg4 arg5 harg5 arg23 arg24 x0 x1 x2 x3 x4 x5 fh0 fh1) := rfl

/-- The second pick. -/
theorem v461_eq : (run.sl.v461 c arg0 harg0 arg1 harg1 arg2 harg2 arg3 harg3 arg4 harg4 arg5 harg5 arg23 arg24 x0 x1 x2 x3 x4 x5 fh0 fh1) = pick1 (run.sl.v437 c arg0 harg0 arg1 harg1 arg2 harg2 arg3 harg3 arg4 harg4 arg5 harg5 arg23 arg24 x0 x1 x2 x3 x4 x5 fh0 fh1) := rfl

/-- The first place. -/
theorem v501_eq : (run.sl.v501 c arg0 harg0 arg1 harg1 arg2 harg2 arg3 harg3 arg4 harg4 arg5 harg5 arg23 arg24 x0 x1 x2 x3 x4 x5 fh0 fh1) = fptosi 32 (at0 (run.sl.v437 c arg0 harg0 arg1 harg1 arg2 harg2 arg3 harg3 arg4 harg4 arg5 harg5 arg23 arg24 x0 x1 x2 x3 x4 x5 fh0 fh1)) := rfl

/-- The second place. -/
theorem v502_eq : (run.sl.v502 c arg0 harg0 arg1 harg1 arg2 harg2 arg3 harg3 arg4 harg4 arg5 harg5 arg23 arg24 x0 x1 x2 x3 x4 x5 fh0 fh1) = fptosi 32 (at1 (run.sl.v437 c arg0 harg0 arg1 harg1 arg2 harg2 arg3 harg3 arg4 harg4 arg5 harg5 arg23 arg24 x0 x1 x2 x3 x4 x5 fh0 fh1)) := rfl

/-- The first gate. -/
theorem v499_eq : (run.sl.v499 c arg0 harg0 arg1 harg1 arg2 harg2 arg3 harg3 arg4 harg4 arg5 harg5 arg23 arg24 x0 x1 x2 x3 x4 x5 fh0 fh1) = mulf (kept (at0 (run.sl.v437 c arg0 harg0 arg1 harg1 arg2 harg2 arg3 harg3 arg4 harg4 arg5 harg5 arg23 arg24 x0 x1 x2 x3 x4 x5 fh0 fh1))) (share (gate0 (run.sl.v437 c arg0 harg0 arg1 harg1 arg2 harg2 arg3 harg3 arg4 harg4 arg5 harg5 arg23 arg24 x0 x1 x2 x3 x4 x5 fh0 fh1)) (gate0 (run.sl.v437 c arg0 harg0 arg1 harg1 arg2 harg2 arg3 harg3 arg4 harg4 arg5 harg5 arg23 arg24 x0 x1 x2 x3 x4 x5 fh0 fh1)) (gate1 (run.sl.v437 c arg0 harg0 arg1 harg1 arg2 harg2 arg3 harg3 arg4 harg4 arg5 harg5 arg23 arg24 x0 x1 x2 x3 x4 x5 fh0 fh1))) := rfl

/-- The second gate. -/
theorem v500_eq : (run.sl.v500 c arg0 harg0 arg1 harg1 arg2 harg2 arg3 harg3 arg4 harg4 arg5 harg5 arg23 arg24 x0 x1 x2 x3 x4 x5 fh0 fh1) = mulf (kept (at1 (run.sl.v437 c arg0 harg0 arg1 harg1 arg2 harg2 arg3 harg3 arg4 harg4 arg5 harg5 arg23 arg24 x0 x1 x2 x3 x4 x5 fh0 fh1))) (share (gate1 (run.sl.v437 c arg0 harg0 arg1 harg1 arg2 harg2 arg3 harg3 arg4 harg4 arg5 harg5 arg23 arg24 x0 x1 x2 x3 x4 x5 fh0 fh1)) (gate0 (run.sl.v437 c arg0 harg0 arg1 harg1 arg2 harg2 arg3 harg3 arg4 harg4 arg5 harg5 arg23 arg24 x0 x1 x2 x3 x4 x5 fh0 fh1)) (gate1 (run.sl.v437 c arg0 harg0 arg1 harg1 arg2 harg2 arg3 harg3 arg4 harg4 arg5 harg5 arg23 arg24 x0 x1 x2 x3 x4 x5 fh0 fh1))) := rfl

/-- The experts' sum, over the weights as loaded. -/
theorem v985_raw : (run.sl.v985 c arg0 harg0 arg1 harg1 arg2 harg2 arg3 harg3 arg4 harg4 arg5 harg5 arg23 arg24 arg25 arg26 x0 x1 x2 x3 x4 x5 fh0 fh1 fh2 fh3 fs2 fs3) = experts (run.sl.v425 c arg0 harg0 arg1 harg1 arg2 harg2 arg3 harg3 arg4 harg4 arg23 arg24 x0 x1 x2 x3 x4 fh0 fh1) (run.sl.v445 c arg0 harg0 arg1 harg1 arg2 harg2 arg3 harg3 arg4 harg4 arg5 harg5 arg23 arg24 x0 x1 x2 x3 x4 x5 fh0 fh1) (run.sl.v501 c arg0 harg0 arg1 harg1 arg2 harg2 arg3 harg3 arg4 harg4 arg5 harg5 arg23 arg24 x0 x1 x2 x3 x4 x5 fh0 fh1) (run.sl.v461 c arg0 harg0 arg1 harg1 arg2 harg2 arg3 harg3 arg4 harg4 arg5 harg5 arg23 arg24 x0 x1 x2 x3 x4 x5 fh0 fh1) (run.sl.v502 c arg0 harg0 arg1 harg1 arg2 harg2 arg3 harg3 arg4 harg4 arg5 harg5 arg23 arg24 x0 x1 x2 x3 x4 x5 fh0 fh1) (run.sl.v499 c arg0 harg0 arg1 harg1 arg2 harg2 arg3 harg3 arg4 harg4 arg5 harg5 arg23 arg24 x0 x1 x2 x3 x4 x5 fh0 fh1) (run.sl.v500 c arg0 harg0 arg1 harg1 arg2 harg2 arg3 harg3 arg4 harg4 arg5 harg5 arg23 arg24 x0 x1 x2 x3 x4 x5 fh0 fh1)
    ![shapeCast S1024x1024 (run.sl.v545 c arg25 fh2 fs2) shapeCasts_S1x1024x1024_S1024x1024, shapeCast S1024x1024 (run.sl.v607 c arg25 fh2 fs2) shapeCasts_S1x1024x1024_S1024x1024, shapeCast S1024x1024 (run.sl.v670 c arg25 fh2 fs2) shapeCasts_S1x1024x1024_S1024x1024, shapeCast S1024x1024 (run.sl.v733 c arg25 fh2 fs2) shapeCasts_S1x1024x1024_S1024x1024, shapeCast S1024x1024 (run.sl.v796 c arg25 fh2 fs2) shapeCasts_S1x1024x1024_S1024x1024, shapeCast S1024x1024 (run.sl.v859 c arg25 fh2 fs2) shapeCasts_S1x1024x1024_S1024x1024, shapeCast S1024x1024 (run.sl.v914 c arg25 fh2 fs2) shapeCasts_S1x1024x1024_S1024x1024, shapeCast S1024x1024 (run.sl.v965 c arg25 fh2 fs2) shapeCasts_S1x1024x1024_S1024x1024]
    ![shapeCast S1024x1024 (run.sl.v556 c arg26 fh3 fs3) shapeCasts_S1x1024x1024_S1024x1024, shapeCast S1024x1024 (run.sl.v618 c arg26 fh3 fs3) shapeCasts_S1x1024x1024_S1024x1024, shapeCast S1024x1024 (run.sl.v681 c arg26 fh3 fs3) shapeCasts_S1x1024x1024_S1024x1024, shapeCast S1024x1024 (run.sl.v744 c arg26 fh3 fs3) shapeCasts_S1x1024x1024_S1024x1024, shapeCast S1024x1024 (run.sl.v807 c arg26 fh3 fs3) shapeCasts_S1x1024x1024_S1024x1024, shapeCast S1024x1024 (run.sl.v870 c arg26 fh3 fs3) shapeCasts_S1x1024x1024_S1024x1024, shapeCast S1024x1024 (run.sl.v925 c arg26 fh3 fs3) shapeCasts_S1x1024x1024_S1024x1024, shapeCast S1024x1024 (run.sl.v976 c arg26 fh3 fs3) shapeCasts_S1x1024x1024_S1024x1024] := rfl

/-- The experts' sum. -/
theorem v985_eq : (run.sl.v985 c arg0 harg0 arg1 harg1 arg2 harg2 arg3 harg3 arg4 harg4 arg5 harg5 arg23 arg24 arg25 arg26 x0 x1 x2 x3 x4 x5 fh0 fh1 fh2 fh3 fs2 fs3) = moe (run.sl.v425 c arg0 harg0 arg1 harg1 arg2 harg2 arg3 harg3 arg4 harg4 arg23 arg24 x0 x1 x2 x3 x4 fh0 fh1) (run.sl.v437 c arg0 harg0 arg1 harg1 arg2 harg2 arg3 harg3 arg4 harg4 arg5 harg5 arg23 arg24 x0 x1 x2 x3 x4 x5 fh0 fh1) (wx 0 fh2) (wx 0 fh3) := by
  rw [v985_raw]
  obtain ⟨a0, a1, a2, a3, a4, a5, a6, a7⟩ := slots0_1 c arg25 fh2 fs2
  obtain ⟨b0, b1, b2, b3, b4, b5, b6, b7⟩ := slots0_2 c arg26 fh3 fs3
  rw [a0, a1, a2, a3, a4, a5, a6, a7, b0, b1, b2, b3, b4, b5, b6, b7]
  rfl

/-- The normalized rows. -/
theorem r_35_eq : (run.sl.r_35 c arg0 harg0 arg1 harg1 arg2 harg2 arg3 harg3 arg4 harg4 arg5 harg5 arg23 arg24 arg25 arg26 x0 x1 x2 x3 x4 x5 fh0 fh1 fh2 fh3 fs2 fs3) = rms (addf (mulf (broadcast S512x1024 (Scalar.ofBits .f32 0x40000000#32)) (run.sl.v425 c arg0 harg0 arg1 harg1 arg2 harg2 arg3 harg3 arg4 harg4 arg23 arg24 x0 x1 x2 x3 x4 fh0 fh1)) (run.sl.v985 c arg0 harg0 arg1 harg1 arg2 harg2 arg3 harg3 arg4 harg4 arg5 harg5 arg23 arg24 arg25 arg26 x0 x1 x2 x3 x4 x5 fh0 fh1 fh2 fh3 fs2 fs3)) (ln 1 x3) := by
  rw [← ln_load arg3 harg3 x3 1 inb_S2x1024_S1x1024_1_0]; rfl

/-- The queries, keys and values. -/
theorem r_36_eq : (run.sl.r_36 c arg0 harg0 arg1 harg1 arg2 harg2 arg3 harg3 arg4 harg4 arg5 harg5 arg23 arg24 arg25 arg26 x0 x1 x2 x3 x4 x5 fh0 fh1 fh2 fh3 fs2 fs3) = proj (run.sl.r_35 c arg0 harg0 arg1 harg1 arg2 harg2 arg3 harg3 arg4 harg4 arg5 harg5 arg23 arg24 arg25 arg26 x0 x1 x2 x3 x4 x5 fh0 fh1 fh2 fh3 fs2 fs3) (wqkv 1 fh0) := by
  rw [← v1028_eq c arg23 fh0]; rfl

/-- The rows after the second norm. -/
theorem v1336_eq : (run.sl.v1336 c arg0 harg0 arg1 harg1 arg2 harg2 arg3 harg3 arg4 harg4 arg5 harg5 arg23 arg24 arg25 arg26 x0 x1 x2 x3 x4 x5 fh0 fh1 fh2 fh3 fs2 fs3) = rms (attn Model.mask (run.sl.r_36 c arg0 harg0 arg1 harg1 arg2 harg2 arg3 harg3 arg4 harg4 arg5 harg5 arg23 arg24 arg25 arg26 x0 x1 x2 x3 x4 x5 fh0 fh1 fh2 fh3 fs2 fs3) (run.sl.r_35 c arg0 harg0 arg1 harg1 arg2 harg2 arg3 harg3 arg4 harg4 arg5 harg5 arg23 arg24 arg25 arg26 x0 x1 x2 x3 x4 x5 fh0 fh1 fh2 fh3 fs2 fs3) (wo 1 fh1)) (ln 1 x4) := by
  rw [← v1321_eq c arg24 fh1, ← ln_load arg4 harg4 x4 1 inb_S2x1024_S1x1024_1_0]; rfl

/-- The router's probabilities. -/
theorem v1348_eq : (run.sl.v1348 c arg0 harg0 arg1 harg1 arg2 harg2 arg3 harg3 arg4 harg4 arg5 harg5 arg23 arg24 arg25 arg26 x0 x1 x2 x3 x4 x5 fh0 fh1 fh2 fh3 fs2 fs3) = probs (run.sl.v1336 c arg0 harg0 arg1 harg1 arg2 harg2 arg3 harg3 arg4 harg4 arg5 harg5 arg23 arg24 arg25 arg26 x0 x1 x2 x3 x4 x5 fh0 fh1 fh2 fh3 fs2 fs3) (wr 1 x5) := by
  rw [← wr_load arg5 harg5 x5 1 inb_S2x1024x8_S1x1024x8_1_0_0]; rfl

/-- The first pick. -/
theorem v1356_eq : (run.sl.v1356 c arg0 harg0 arg1 harg1 arg2 harg2 arg3 harg3 arg4 harg4 arg5 harg5 arg23 arg24 arg25 arg26 x0 x1 x2 x3 x4 x5 fh0 fh1 fh2 fh3 fs2 fs3) = pick0 (run.sl.v1348 c arg0 harg0 arg1 harg1 arg2 harg2 arg3 harg3 arg4 harg4 arg5 harg5 arg23 arg24 arg25 arg26 x0 x1 x2 x3 x4 x5 fh0 fh1 fh2 fh3 fs2 fs3) := rfl

/-- The second pick. -/
theorem v1372_eq : (run.sl.v1372 c arg0 harg0 arg1 harg1 arg2 harg2 arg3 harg3 arg4 harg4 arg5 harg5 arg23 arg24 arg25 arg26 x0 x1 x2 x3 x4 x5 fh0 fh1 fh2 fh3 fs2 fs3) = pick1 (run.sl.v1348 c arg0 harg0 arg1 harg1 arg2 harg2 arg3 harg3 arg4 harg4 arg5 harg5 arg23 arg24 arg25 arg26 x0 x1 x2 x3 x4 x5 fh0 fh1 fh2 fh3 fs2 fs3) := rfl

/-- The first place. -/
theorem v1412_eq : (run.sl.v1412 c arg0 harg0 arg1 harg1 arg2 harg2 arg3 harg3 arg4 harg4 arg5 harg5 arg23 arg24 arg25 arg26 x0 x1 x2 x3 x4 x5 fh0 fh1 fh2 fh3 fs2 fs3) = fptosi 32 (at0 (run.sl.v1348 c arg0 harg0 arg1 harg1 arg2 harg2 arg3 harg3 arg4 harg4 arg5 harg5 arg23 arg24 arg25 arg26 x0 x1 x2 x3 x4 x5 fh0 fh1 fh2 fh3 fs2 fs3)) := rfl

/-- The second place. -/
theorem v1413_eq : (run.sl.v1413 c arg0 harg0 arg1 harg1 arg2 harg2 arg3 harg3 arg4 harg4 arg5 harg5 arg23 arg24 arg25 arg26 x0 x1 x2 x3 x4 x5 fh0 fh1 fh2 fh3 fs2 fs3) = fptosi 32 (at1 (run.sl.v1348 c arg0 harg0 arg1 harg1 arg2 harg2 arg3 harg3 arg4 harg4 arg5 harg5 arg23 arg24 arg25 arg26 x0 x1 x2 x3 x4 x5 fh0 fh1 fh2 fh3 fs2 fs3)) := rfl

/-- The first gate. -/
theorem v1410_eq : (run.sl.v1410 c arg0 harg0 arg1 harg1 arg2 harg2 arg3 harg3 arg4 harg4 arg5 harg5 arg23 arg24 arg25 arg26 x0 x1 x2 x3 x4 x5 fh0 fh1 fh2 fh3 fs2 fs3) = mulf (kept (at0 (run.sl.v1348 c arg0 harg0 arg1 harg1 arg2 harg2 arg3 harg3 arg4 harg4 arg5 harg5 arg23 arg24 arg25 arg26 x0 x1 x2 x3 x4 x5 fh0 fh1 fh2 fh3 fs2 fs3))) (share (gate0 (run.sl.v1348 c arg0 harg0 arg1 harg1 arg2 harg2 arg3 harg3 arg4 harg4 arg5 harg5 arg23 arg24 arg25 arg26 x0 x1 x2 x3 x4 x5 fh0 fh1 fh2 fh3 fs2 fs3)) (gate0 (run.sl.v1348 c arg0 harg0 arg1 harg1 arg2 harg2 arg3 harg3 arg4 harg4 arg5 harg5 arg23 arg24 arg25 arg26 x0 x1 x2 x3 x4 x5 fh0 fh1 fh2 fh3 fs2 fs3)) (gate1 (run.sl.v1348 c arg0 harg0 arg1 harg1 arg2 harg2 arg3 harg3 arg4 harg4 arg5 harg5 arg23 arg24 arg25 arg26 x0 x1 x2 x3 x4 x5 fh0 fh1 fh2 fh3 fs2 fs3))) := rfl

/-- The second gate. -/
theorem v1411_eq : (run.sl.v1411 c arg0 harg0 arg1 harg1 arg2 harg2 arg3 harg3 arg4 harg4 arg5 harg5 arg23 arg24 arg25 arg26 x0 x1 x2 x3 x4 x5 fh0 fh1 fh2 fh3 fs2 fs3) = mulf (kept (at1 (run.sl.v1348 c arg0 harg0 arg1 harg1 arg2 harg2 arg3 harg3 arg4 harg4 arg5 harg5 arg23 arg24 arg25 arg26 x0 x1 x2 x3 x4 x5 fh0 fh1 fh2 fh3 fs2 fs3))) (share (gate1 (run.sl.v1348 c arg0 harg0 arg1 harg1 arg2 harg2 arg3 harg3 arg4 harg4 arg5 harg5 arg23 arg24 arg25 arg26 x0 x1 x2 x3 x4 x5 fh0 fh1 fh2 fh3 fs2 fs3)) (gate0 (run.sl.v1348 c arg0 harg0 arg1 harg1 arg2 harg2 arg3 harg3 arg4 harg4 arg5 harg5 arg23 arg24 arg25 arg26 x0 x1 x2 x3 x4 x5 fh0 fh1 fh2 fh3 fs2 fs3)) (gate1 (run.sl.v1348 c arg0 harg0 arg1 harg1 arg2 harg2 arg3 harg3 arg4 harg4 arg5 harg5 arg23 arg24 arg25 arg26 x0 x1 x2 x3 x4 x5 fh0 fh1 fh2 fh3 fs2 fs3))) := rfl

/-- The experts' sum, over the weights as loaded. -/
theorem v1892_raw : (run.sl.v1892 c arg0 harg0 arg1 harg1 arg2 harg2 arg3 harg3 arg4 harg4 arg5 harg5 arg23 arg24 arg25 arg26 x0 x1 x2 x3 x4 x5 fh0 fh1 fh2 fh3 fs2 fs3) = experts (run.sl.v1336 c arg0 harg0 arg1 harg1 arg2 harg2 arg3 harg3 arg4 harg4 arg5 harg5 arg23 arg24 arg25 arg26 x0 x1 x2 x3 x4 x5 fh0 fh1 fh2 fh3 fs2 fs3) (run.sl.v1356 c arg0 harg0 arg1 harg1 arg2 harg2 arg3 harg3 arg4 harg4 arg5 harg5 arg23 arg24 arg25 arg26 x0 x1 x2 x3 x4 x5 fh0 fh1 fh2 fh3 fs2 fs3) (run.sl.v1412 c arg0 harg0 arg1 harg1 arg2 harg2 arg3 harg3 arg4 harg4 arg5 harg5 arg23 arg24 arg25 arg26 x0 x1 x2 x3 x4 x5 fh0 fh1 fh2 fh3 fs2 fs3) (run.sl.v1372 c arg0 harg0 arg1 harg1 arg2 harg2 arg3 harg3 arg4 harg4 arg5 harg5 arg23 arg24 arg25 arg26 x0 x1 x2 x3 x4 x5 fh0 fh1 fh2 fh3 fs2 fs3) (run.sl.v1413 c arg0 harg0 arg1 harg1 arg2 harg2 arg3 harg3 arg4 harg4 arg5 harg5 arg23 arg24 arg25 arg26 x0 x1 x2 x3 x4 x5 fh0 fh1 fh2 fh3 fs2 fs3) (run.sl.v1410 c arg0 harg0 arg1 harg1 arg2 harg2 arg3 harg3 arg4 harg4 arg5 harg5 arg23 arg24 arg25 arg26 x0 x1 x2 x3 x4 x5 fh0 fh1 fh2 fh3 fs2 fs3) (run.sl.v1411 c arg0 harg0 arg1 harg1 arg2 harg2 arg3 harg3 arg4 harg4 arg5 harg5 arg23 arg24 arg25 arg26 x0 x1 x2 x3 x4 x5 fh0 fh1 fh2 fh3 fs2 fs3)
    ![shapeCast S1024x1024 (run.sl.v1456 c arg25 fh2 fs2) shapeCasts_S1x1024x1024_S1024x1024, shapeCast S1024x1024 (run.sl.v1518 c arg25 fh2 fs2) shapeCasts_S1x1024x1024_S1024x1024, shapeCast S1024x1024 (run.sl.v1581 c arg25 fh2 fs2) shapeCasts_S1x1024x1024_S1024x1024, shapeCast S1024x1024 (run.sl.v1644 c arg25 fh2 fs2) shapeCasts_S1x1024x1024_S1024x1024, shapeCast S1024x1024 (run.sl.v1707 c arg25 fh2 fs2) shapeCasts_S1x1024x1024_S1024x1024, shapeCast S1024x1024 (run.sl.v1770 c arg25 fh2 fs2) shapeCasts_S1x1024x1024_S1024x1024, shapeCast S1024x1024 (run.sl.v1821 c arg25 fh2 fs2) shapeCasts_S1x1024x1024_S1024x1024, shapeCast S1024x1024 (run.sl.v1872 c arg25 fh2 fs2) shapeCasts_S1x1024x1024_S1024x1024]
    ![shapeCast S1024x1024 (run.sl.v1467 c arg26 fh3 fs3) shapeCasts_S1x1024x1024_S1024x1024, shapeCast S1024x1024 (run.sl.v1529 c arg26 fh3 fs3) shapeCasts_S1x1024x1024_S1024x1024, shapeCast S1024x1024 (run.sl.v1592 c arg26 fh3 fs3) shapeCasts_S1x1024x1024_S1024x1024, shapeCast S1024x1024 (run.sl.v1655 c arg26 fh3 fs3) shapeCasts_S1x1024x1024_S1024x1024, shapeCast S1024x1024 (run.sl.v1718 c arg26 fh3 fs3) shapeCasts_S1x1024x1024_S1024x1024, shapeCast S1024x1024 (run.sl.v1781 c arg26 fh3 fs3) shapeCasts_S1x1024x1024_S1024x1024, shapeCast S1024x1024 (run.sl.v1832 c arg26 fh3 fs3) shapeCasts_S1x1024x1024_S1024x1024, shapeCast S1024x1024 (run.sl.v1883 c arg26 fh3 fs3) shapeCasts_S1x1024x1024_S1024x1024] := rfl

/-- The experts' sum. -/
theorem v1892_eq : (run.sl.v1892 c arg0 harg0 arg1 harg1 arg2 harg2 arg3 harg3 arg4 harg4 arg5 harg5 arg23 arg24 arg25 arg26 x0 x1 x2 x3 x4 x5 fh0 fh1 fh2 fh3 fs2 fs3) = moe (run.sl.v1336 c arg0 harg0 arg1 harg1 arg2 harg2 arg3 harg3 arg4 harg4 arg5 harg5 arg23 arg24 arg25 arg26 x0 x1 x2 x3 x4 x5 fh0 fh1 fh2 fh3 fs2 fs3) (run.sl.v1348 c arg0 harg0 arg1 harg1 arg2 harg2 arg3 harg3 arg4 harg4 arg5 harg5 arg23 arg24 arg25 arg26 x0 x1 x2 x3 x4 x5 fh0 fh1 fh2 fh3 fs2 fs3) (wx 1 fh2) (wx 1 fh3) := by
  rw [v1892_raw]
  obtain ⟨a0, a1, a2, a3, a4, a5, a6, a7⟩ := slots1_1 c arg25 fh2 fs2
  obtain ⟨b0, b1, b2, b3, b4, b5, b6, b7⟩ := slots1_2 c arg26 fh3 fs3
  rw [a0, a1, a2, a3, a4, a5, a6, a7, b0, b1, b2, b3, b4, b5, b6, b7]
  rfl

end Cert.KernelIdeal.Body

end
-- ==== Proof.KRes.lean ====
/- The kernel body's stores as functions of the arguments. -/
module

public import proofs.«01_k».proof.Proof.KOut

@[expose] public section

set_option maxRecDepth 16384

noncomputable section

namespace Cert.KernelIdeal.Body

open Cert.KernelIdeal.Gen Cert.KernelIdeal.Model
open Idealize.ShloMosaic

variable {F : FTy → Type} [FloatOps F] [Named F]

variable (c : Dev nD) (arg0 : Memref sig .tc .vmem S512x32 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x1024x8 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1024x8 .f32) (harg8 : arg8.IsWhole) (arg9 : Memref sig .tc .vmem S8 .f32) (harg9 : arg9.IsWhole) (arg10 : Memref sig .tc .vmem S1024x32 .f32) (harg10 : arg10.IsWhole) (arg11 : Memref sig .tc .vmem S32 .f32) (harg11 : arg11.IsWhole) (arg12 : Memref sig .tc .vmem S1024x64 .f32) (harg12 : arg12.IsWhole) (arg13 : Memref sig .tc .vmem S64 .f32) (harg13 : arg13.IsWhole) (arg18 : Memref sig .tc .vmem S8x64x1 .f32) (harg18 : arg18.IsWhole) (arg19 : Memref sig .tc .vmem S8x64x8 .f32) (harg19 : arg19.IsWhole) (arg20 : Memref sig .tc .vmem S8x64x32 .f32) (harg20 : arg20.IsWhole) (arg21 : Memref sig .tc .vmem S8x64x64 .f32) (harg21 : arg21.IsWhole) (arg22 : Memref sig .tc .vmem S8 .f32) (harg22 : arg22.IsWhole) (arg23 : Memref sig .tc .vmem S1024x3072 .f32) (harg23 : arg23.IsWhole) (arg24 : Memref sig .tc .vmem S1024x1024 .f32) (harg24 : arg24.IsWhole) (arg25 : Memref sig .tc .vmem S3x1024x1024 .f32) (harg25 : arg25.IsWhole) (arg26 : Memref sig .tc .vmem S3x1024x1024 .f32) (harg26 : arg26.IsWhole)
    (x0 : Vec F S512x32 .f32) (x1 : Vec F S32x1024 .f32) (x2 : Vec F S32x1024 .f32) (x3 : Vec F S2x1024 .f32) (x4 : Vec F S2x1024 .f32) (x5 : Vec F S2x1024x8 .f32) (x6 : Vec F S1024x1 .f32) (x7 : Vec F S1 .f32) (x8 : Vec F S1024x8 .f32) (x9 : Vec F S8 .f32) (x10 : Vec F S1024x32 .f32) (x11 : Vec F S32 .f32) (x12 : Vec F S1024x64 .f32) (x13 : Vec F S64 .f32) (fh0 : HbBuf0 (F := F) c hbM0_0) (fh1 : HbBuf0 (F := F) c hbM0_1) (fh2 : HbBuf0 (F := F) c hbM0_2) (fh3 : HbBuf0 (F := F) c hbM0_3)
    (fs0 : arg23.view.ty.Contents (Elt F)) (fs1 : arg24.view.ty.Contents (Elt F)) (fs2 : arg25.view.ty.Contents (Elt F)) (fs3 : arg26.view.ty.Contents (Elt F))

set_option maxHeartbeats 2000000

theorem rows0_eq : (run.sl.v425 c arg0 harg0 arg1 harg1 arg2 harg2 arg3 harg3 arg4 harg4 arg23 arg24 x0 x1 x2 x3 x4 fh0 fh1) = rows 0 (emb x0 x1 x2) x3 x4 fh0 fh1 := by
  rw [v425_eq, r_34_eq, r_1_eq, r_eq, v42_eq]; rfl

theorem layer0_eq : addf (mulf (broadcast S512x1024 (Scalar.ofBits .f32 0x40000000#32)) (run.sl.v425 c arg0 harg0 arg1 harg1 arg2 harg2 arg3 harg3 arg4 harg4 arg23 arg24 x0 x1 x2 x3 x4 fh0 fh1)) (run.sl.v985 c arg0 harg0 arg1 harg1 arg2 harg2 arg3 harg3 arg4 harg4 arg5 harg5 arg23 arg24 arg25 arg26 x0 x1 x2 x3 x4 x5 fh0 fh1 fh2 fh3 fs2 fs3) = layer 0 (emb x0 x1 x2) x3 x4 x5 fh0 fh1 fh2 fh3 := by
  rw [v985_eq, v437_eq, rows0_eq]; rfl

theorem rows1_eq : (run.sl.v1336 c arg0 harg0 arg1 harg1 arg2 harg2 arg3 harg3 arg4 harg4 arg5 harg5 arg23 arg24 arg25 arg26 x0 x1 x2 x3 x4 x5 fh0 fh1 fh2 fh3 fs2 fs3) = rows 1 (layer 0 (emb x0 x1 x2) x3 x4 x5 fh0 fh1 fh2 fh3) x3 x4 fh0 fh1 := by
  rw [v1336_eq, r_36_eq, r_35_eq, layer0_eq]; rfl

theorem last_eq : (run.sl.v1895 c arg0 harg0 arg1 harg1 arg2 harg2 arg3 harg3 arg4 harg4 arg5 harg5 arg23 arg24 arg25 arg26 x0 x1 x2 x3 x4 x5 fh0 fh1 fh2 fh3 fs2 fs3) = last x0 x1 x2 x3 x4 x5 fh0 fh1 fh2 fh3 := by
  have e : (run.sl.v1895 c arg0 harg0 arg1 harg1 arg2 harg2 arg3 harg3 arg4 harg4 arg5 harg5 arg23 arg24 arg25 arg26 x0 x1 x2 x3 x4 x5 fh0 fh1 fh2 fh3 fs2 fs3) = addf (mulf (broadcast S512x1024 (Scalar.ofBits .f32 0x40000000#32)) (run.sl.v1336 c arg0 harg0 arg1 harg1 arg2 harg2 arg3 harg3 arg4 harg4 arg5 harg5 arg23 arg24 arg25 arg26 x0 x1 x2 x3 x4 x5 fh0 fh1 fh2 fh3 fs2 fs3)) (run.sl.v1892 c arg0 harg0 arg1 harg1 arg2 harg2 arg3 harg3 arg4 harg4 arg5 harg5 arg23 arg24 arg25 arg26 x0 x1 x2 x3 x4 x5 fh0 fh1 fh2 fh3 fs2 fs3) := rfl
  rw [e, v1892_eq, v1348_eq, rows1_eq]; rfl

theorem stats_eq : k0_pay3 (run.sl.v1409 c arg0 harg0 arg1 harg1 arg2 harg2 arg3 harg3 arg4 harg4 arg5 harg5 arg23 arg24 arg25 arg26 x0 x1 x2 x3 x4 x5 fh0 fh1 fh2 fh3 fs2 fs3) = stats x0 x1 x2 x3 x4 x5 fh0 fh1 fh2 fh3 := by
  have e : k0_pay3 (run.sl.v1409 c arg0 harg0 arg1 harg1 arg2 harg2 arg3 harg3 arg4 harg4 arg5 harg5 arg23 arg24 arg25 arg26 x0 x1 x2 x3 x4 x5 fh0 fh1 fh2 fh3 fs2 fs3) = total (run.sl.v437 c arg0 harg0 arg1 harg1 arg2 harg2 arg3 harg3 arg4 harg4 arg5 harg5 arg23 arg24 x0 x1 x2 x3 x4 x5 fh0 fh1) (run.sl.v1348 c arg0 harg0 arg1 harg1 arg2 harg2 arg3 harg3 arg4 harg4 arg5 harg5 arg23 arg24 arg25 arg26 x0 x1 x2 x3 x4 x5 fh0 fh1 fh2 fh3 fs2 fs3) := rfl
  rw [e, v437_eq, v1348_eq, rows0_eq, rows1_eq]; rfl

/-- What the body leaves in result 1. -/
theorem read_1 (f : arg18.view.ty.Contents (Elt F)) : arg18.view.read (Elt F) (arg18.view.writes (Elt F) f (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).1) = out1 (last x0 x1 x2 x3 x4 x5 fh0 fh1 fh2 fh3) x6 x7 := by
  have e : (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).1 = [⟨Rect.unit (s := S8x64x1) ![0, 0, 0] S8x64x1.size inb_S8x64x1_S8x64x1_0_0_0, out1 (run.sl.v1895 c arg0 harg0 arg1 harg1 arg2 harg2 arg3 harg3 arg4 harg4 arg5 harg5 arg23 arg24 arg25 arg26 x0 x1 x2 x3 x4 x5 fh0 fh1 fh2 fh3 fs2 fs3) (View.readAt (Elt F) arg6.view (Rect.unit (s := S1024x1) ![0, 0] S1024x1.size inb_S1024x1_S1024x1_0_0).toLoadRect (harg6.unread x6)) (View.readAt (Elt F) arg7.view (Rect.unit (s := S1) ![0] S1.size inb_S1_S1_0).toLoadRect (harg7.unread x7))⟩] := rfl
  rw [e, View.read_writes_full, last_eq, full_load, full_load]

/-- What the body leaves in result 2. -/
theorem read_2 (f : arg19.view.ty.Contents (Elt F)) : arg19.view.read (Elt F) (arg19.view.writes (Elt F) f (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.1) = out8 (last x0 x1 x2 x3 x4 x5 fh0 fh1 fh2 fh3) x8 x9 := by
  have e : (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.1 = [⟨Rect.unit (s := S8x64x8) ![0, 0, 0] S8x64x8.size inb_S8x64x8_S8x64x8_0_0_0, out8 (run.sl.v1895 c arg0 harg0 arg1 harg1 arg2 harg2 arg3 harg3 arg4 harg4 arg5 harg5 arg23 arg24 arg25 arg26 x0 x1 x2 x3 x4 x5 fh0 fh1 fh2 fh3 fs2 fs3) (View.readAt (Elt F) arg8.view (Rect.unit (s := S1024x8) ![0, 0] S1024x8.size inb_S1024x8_S1024x8_0_0).toLoadRect (harg8.unread x8)) (View.readAt (Elt F) arg9.view (Rect.unit (s := S8) ![0] S8.size inb_S8_S8_0).toLoadRect (harg9.unread x9))⟩] := rfl
  rw [e, View.read_writes_full, last_eq, full_load, full_load]

/-- What the body leaves in result 3. -/
theorem read_3 (f : arg20.view.ty.Contents (Elt F)) : arg20.view.read (Elt F) (arg20.view.writes (Elt F) f (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.2.1) = k0_pay1 (last x0 x1 x2 x3 x4 x5 fh0 fh1 fh2 fh3) x10 x11 := by
  have e : (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.2.1 = [⟨Rect.unit (s := S8x64x32) ![0, 0, 0] S8x64x32.size inb_S8x64x32_S8x64x32_0_0_0, k0_pay1 (run.sl.v1895 c arg0 harg0 arg1 harg1 arg2 harg2 arg3 harg3 arg4 harg4 arg5 harg5 arg23 arg24 arg25 arg26 x0 x1 x2 x3 x4 x5 fh0 fh1 fh2 fh3 fs2 fs3) (View.readAt (Elt F) arg10.view (Rect.unit (s := S1024x32) ![0, 0] S1024x32.size inb_S1024x32_S1024x32_0_0).toLoadRect (harg10.unread x10)) (View.readAt (Elt F) arg11.view (Rect.unit (s := S32) ![0] S32.size inb_S32_S32_0).toLoadRect (harg11.unread x11))⟩] := rfl
  rw [e, View.read_writes_full, last_eq, full_load, full_load]

/-- What the body leaves in result 4. -/
theorem read_4 (f : arg21.view.ty.Contents (Elt F)) : arg21.view.read (Elt F) (arg21.view.writes (Elt F) f (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.2.2.1) = k0_pay2 (last x0 x1 x2 x3 x4 x5 fh0 fh1 fh2 fh3) x12 x13 := by
  have e : (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.2.2.1 = [⟨Rect.unit (s := S8x64x64) ![0, 0, 0] S8x64x64.size inb_S8x64x64_S8x64x64_0_0_0, k0_pay2 (run.sl.v1895 c arg0 harg0 arg1 harg1 arg2 harg2 arg3 harg3 arg4 harg4 arg5 harg5 arg23 arg24 arg25 arg26 x0 x1 x2 x3 x4 x5 fh0 fh1 fh2 fh3 fs2 fs3) (View.readAt (Elt F) arg12.view (Rect.unit (s := S1024x64) ![0, 0] S1024x64.size inb_S1024x64_S1024x64_0_0).toLoadRect (harg12.unread x12)) (View.readAt (Elt F) arg13.view (Rect.unit (s := S64) ![0] S64.size inb_S64_S64_0).toLoadRect (harg13.unread x13))⟩] := rfl
  rw [e, View.read_writes_full, last_eq, full_load, full_load]

/-- What the body leaves in result 5. -/
theorem read_5 (f : arg22.view.ty.Contents (Elt F)) : arg22.view.read (Elt F) (arg22.view.writes (Elt F) f (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.2.2.2.1) = stats x0 x1 x2 x3 x4 x5 fh0 fh1 fh2 fh3 := by
  have e : (run c arg0 harg0 arg1 harg1 arg2 harg2 arg3 harg3 arg4 harg4 arg5 harg5 arg6 harg6 arg7 harg7 arg8 harg8 arg9 harg9 arg10 harg10 arg11 harg11 arg12 harg12 arg13 harg13 arg18 harg18 arg19 harg19 arg20 harg20 arg21 harg21 arg22 harg22 arg23 harg23 arg24 harg24 arg25 harg25 arg26 harg26 x0 x1 x2 x3 x4 x5 x6 x7 x8 x9 x10 x11 x12 x13 fh0 fh1 fh2 fh3 fs0 fs1 fs2 fs3).2.2.2.2.1 = [⟨Rect.unit (s := S8) ![0] S8.size inb_S8_S8_0, k0_pay3 (run.sl.v1409 c arg0 harg0 arg1 harg1 arg2 harg2 arg3 harg3 arg4 harg4 arg5 harg5 arg23 arg24 arg25 arg26 x0 x1 x2 x3 x4 x5 fh0 fh1 fh2 fh3 fs2 fs3)⟩] := rfl
  rw [e, View.read_writes_full, stats_eq]

end Cert.KernelIdeal.Body

end
-- ==== Proof.KFrame.lean ====
/- The kernel at the ideal operations: it terminates without a fault, its counters return to zero, its arguments are
   unchanged, and its results are the named functions of its arguments. -/
module

public import proofs.«01_k».proof.Proof.KRes
public import Idealize.ShloMosaic.Lib.Claim
public import Idealize.ShloMosaic.Lib.Pipeline.ValueKit

@[expose] public section

set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The arguments as the region finds them, in the order of the kernel's functions. -/
def lastAt (c : Dev nD) (t : Fin cfg0.N) : FVec F S512x1024 .f32 :=
  Model.last (iblk m c 0 t) (iblk m c 1 t) (iblk m c 2 t) (iblk m c 3 t) (iblk m c 4 t) (iblk m c 5 t) (V m c main_arg4) (V m c main_arg5) (V m c main_arg8) (V m c main_arg9)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => Model.out1 (lastAt m c t) (iblk m c 6 t) (iblk m c 7 t)
    | ⟨15, _⟩ => Model.out8 (lastAt m c t) (iblk m c 8 t) (iblk m c 9 t)
    | ⟨16, _⟩ => k0_pay1 (lastAt m c t) (iblk m c 10 t) (iblk m c 11 t)
    | ⟨17, _⟩ => k0_pay2 (lastAt m c t) (iblk m c 12 t) (iblk m c 13 t)
    | ⟨18, _⟩ => Model.stats (iblk m c 0 t) (iblk m c 1 t) (iblk m c 2 t) (iblk m c 3 t) (iblk m c 4 t) (iblk m c 5 t) (V m c main_arg4) (V m c main_arg5) (V m c main_arg8) (V m c main_arg9)
    | ⟨_ + 19, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = Model.out1 (lastAt m c t) (iblk m c 6 t) (iblk m c 7 t) := by dsimp only [dats]
theorem after0_15 (c : Dev nD) (t : Fin cfg0.N) : (dats m 0 c).after 15 t = Model.out8 (lastAt m c t) (iblk m c 8 t) (iblk m c 9 t) := by dsimp only [dats]
theorem after0_16 (c : Dev nD) (t : Fin cfg0.N) : (dats m 0 c).after 16 t = k0_pay1 (lastAt m c t) (iblk m c 10 t) (iblk m c 11 t) := by dsimp only [dats]
theorem after0_17 (c : Dev nD) (t : Fin cfg0.N) : (dats m 0 c).after 17 t = k0_pay2 (lastAt m c t) (iblk m c 12 t) (iblk m c 13 t) := by dsimp only [dats]
theorem after0_18 (c : Dev nD) (t : Fin cfg0.N) : (dats m 0 c).after 18 t = Model.stats (iblk m c 0 t) (iblk m c 1 t) (iblk m c 2 t) (iblk m c 3 t) (iblk m c 4 t) (iblk m c 5 t) (V m c main_arg4) (V m c main_arg5) (V m c main_arg8) (V m c main_arg9) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

theorem owns_ex (c : Dev nD) {sp : Space} {s : Shape} {e : EltTy} (M : Memref sig .tc sp s e) :
    (iprop(∃ d, owns (c : Thread nD τ) M fullShare d) : sProp 𝕄)
      = iprop(∃ d, ∃ f, ⌜M.view.read (Elt F) f = d⌝ ∗ M.view.loc (c : Thread nD τ) ↦[M.view.set]{fullShare} f) := rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  rw [owns_ex c scM0_0, owns_ex c scM0_1, owns_ex c scM0_2, owns_ex c scM0_3]
  iintro ⟨⟨⟨⟨%ds0, %gs0, -, HS0⟩, ⟨%ds1, %gs1, -, HS1⟩, ⟨%ds2, %gs2, -, HS2⟩, ⟨%ds3, %gs3, -, HS3⟩⟩, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((run c _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (V m c main_arg4) (V m c main_arg5) (V m c main_arg8) (V m c main_arg9) gs0 gs1 gs2 gs3).2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, H13, ⟨%e14, H14⟩, ⟨%e15, H15⟩, ⟨%e16, H16⟩, ⟨%e17, H17⟩, ⟨%e18, H18⟩, HS0, HS1, HS2, HS3, Hq0, Hq1, Hq2, Hq3, Hq4, Hq5, Hq6, Hq7, Hh0, Hh1, Hh2, Hh3, ⟨%W', HW'⟩⟩
  isplitl [HS0 HS1 HS2 HS3 Hg Hq0 Hq1 Hq2 Hq3 Hq4 Hq5 Hq6 Hq7 Hh0 Hh1 Hh2 Hh3]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact read_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H15]
  · unfold owns; iexists _; isplitr
    swap; · iexact H15
    ipureintro; exact read_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H16]
  · unfold owns; iexists _; isplitr
    swap; · iexact H16
    ipureintro; exact read_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns; iexists _; isplitr
    swap; · iexact H17
    ipureintro; exact read_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  unfold owns; iexists _; isplitr
  swap; · iexact H18
  ipureintro; exact read_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/
set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toR) (V m)) :=
  (θ_run defs _ _).mono (fun _ h c => ⟨fun w => ((dats m 0 c).toR_arrAt_iff w _ _).mpr ((h.1 c).1 w), (h.1 c).2⟩) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (fun c => (dats m 0 c).toR) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Body

end
-- ==== Proof.KFinal.lean ====
/- The kernel's five result arrays at the end, as functions of its argument arrays. -/
module

public import proofs.«01_k».proof.Proof.KFrame

@[expose] public section

set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F] [Named F]

variable (m : (ℓ : Loc nD τ sig) → Buf (Elt F) ℓ)

theorem index_zero : win0_0.index t0_0 = ![0, 0] ∧ win0_1.index t0_0 = ![0, 0] ∧ win0_2.index t0_0 = ![0, 0] ∧ win0_3.index t0_0 = ![0, 0] ∧ win0_4.index t0_0 = ![0, 0] ∧ win0_5.index t0_0 = ![0, 0, 0] ∧ win0_6.index t0_0 = ![0, 0] ∧ win0_7.index t0_0 = ![0] ∧ win0_8.index t0_0 = ![0, 0] ∧ win0_9.index t0_0 = ![0] ∧ win0_10.index t0_0 = ![0, 0] ∧ win0_11.index t0_0 = ![0] ∧ win0_12.index t0_0 = ![0, 0] ∧ win0_13.index t0_0 = ![0] := by decide +kernel

theorem blk0 (c : Dev nD) : iblk m c 0 t0_0 = shapeCast S512x32 (m ((c : Thread nD τ).loc main_arg0)) shapeCasts_S8x2048x1_S512x32 := by
  funext j
  blk_point [iblk, V, index_zero]

theorem blk1 (c : Dev nD) : iblk m c 1 t0_0 = m ((c : Thread nD τ).loc main_arg1) := by
  funext j
  blk_point [iblk, V, index_zero]

theorem blk2 (c : Dev nD) : iblk m c 2 t0_0 = m ((c : Thread nD τ).loc main_arg2) := by
  funext j
  blk_point [iblk, V, index_zero]

theorem blk3 (c : Dev nD) : iblk m c 3 t0_0 = m ((c : Thread nD τ).loc main_arg3) := by
  funext j
  blk_point [iblk, V, index_zero]

theorem blk4 (c : Dev nD) : iblk m c 4 t0_0 = m ((c : Thread nD τ).loc main_arg6) := by
  funext j
  blk_point [iblk, V, index_zero]

theorem blk5 (c : Dev nD) : iblk m c 5 t0_0 = m ((c : Thread nD τ).loc main_arg7) := by
  funext j
  blk_point [iblk, V, index_zero]

theorem blk6 (c : Dev nD) : iblk m c 6 t0_0 = m ((c : Thread nD τ).loc main_arg10) := by
  funext j
  blk_point [iblk, V, index_zero]

theorem blk7 (c : Dev nD) : iblk m c 7 t0_0 = m ((c : Thread nD τ).loc main_arg11) := by
  funext j
  blk_point [iblk, V, index_zero]

theorem blk8 (c : Dev nD) : iblk m c 8 t0_0 = m ((c : Thread nD τ).loc main_arg12) := by
  funext j
  blk_point [iblk, V, index_zero]

theorem blk9 (c : Dev nD) : iblk m c 9 t0_0 = m ((c : Thread nD τ).loc main_arg13) := by
  funext j
  blk_point [iblk, V, index_zero]

theorem blk10 (c : Dev nD) : iblk m c 10 t0_0 = m ((c : Thread nD τ).loc main_arg14) := by
  funext j
  blk_point [iblk, V, index_zero]

theorem blk11 (c : Dev nD) : iblk m c 11 t0_0 = m ((c : Thread nD τ).loc main_arg15) := by
  funext j
  blk_point [iblk, V, index_zero]

theorem blk12 (c : Dev nD) : iblk m c 12 t0_0 = m ((c : Thread nD τ).loc main_arg16) := by
  funext j
  blk_point [iblk, V, index_zero]

theorem blk13 (c : Dev nD) : iblk m c 13 t0_0 = m ((c : Thread nD τ).loc main_arg17) := by
  funext j
  blk_point [iblk, V, index_zero]

/-- The hidden rows the last layer leaves, as a function of the argument arrays. -/
def hidden (c : Dev nD) : FVec F S512x1024 .f32 :=
  Model.last (shapeCast S512x32 (m ((c : Thread nD τ).loc main_arg0)) shapeCasts_S8x2048x1_S512x32) (m ((c : Thread nD τ).loc main_arg1)) (m ((c : Thread nD τ).loc main_arg2)) (m ((c : Thread nD τ).loc main_arg3)) (m ((c : Thread nD τ).loc main_arg6)) (m ((c : Thread nD τ).loc main_arg7))
    (m ((c : Thread nD τ).loc main_arg4)) (m ((c : Thread nD τ).loc main_arg5)) (m ((c : Thread nD τ).loc main_arg8)) (m ((c : Thread nD τ).loc main_arg9))

theorem lastAt_eq (c : Dev nD) : lastAt m c t0_0 = hidden m c := by
  unfold lastAt hidden
  rw [blk0, blk1, blk2, blk3, blk4, blk5, V_main_arg4, V_main_arg5, V_main_arg8, V_main_arg9]

theorem final_14 (c : Dev nD) : (dats m 0 c).arrAt 14 (cfgs 0).N = Model.out1 (hidden m c) (m ((c : Thread nD τ).loc main_arg10)) (m ((c : Thread nD τ).loc main_arg11)) := by
  refine (dats m 0 c).arrAt_eq_of_after_last 14 t0_0 (by decide +kernel) _ fun j => ?_
  blk_simp
  rw [after0_14, lastAt_eq, blk6, blk7]

theorem final_15 (c : Dev nD) : (dats m 0 c).arrAt 15 (cfgs 0).N = Model.out8 (hidden m c) (m ((c : Thread nD τ).loc main_arg12)) (m ((c : Thread nD τ).loc main_arg13)) := by
  refine (dats m 0 c).arrAt_eq_of_after_last 15 t0_0 (by decide +kernel) _ fun j => ?_
  blk_simp
  rw [after0_15, lastAt_eq, blk8, blk9]

theorem final_16 (c : Dev nD) : (dats m 0 c).arrAt 16 (cfgs 0).N = k0_pay1 (hidden m c) (m ((c : Thread nD τ).loc main_arg14)) (m ((c : Thread nD τ).loc main_arg15)) := by
  refine (dats m 0 c).arrAt_eq_of_after_last 16 t0_0 (by decide +kernel) _ fun j => ?_
  blk_simp
  rw [after0_16, lastAt_eq, blk10, blk11]

theorem final_17 (c : Dev nD) : (dats m 0 c).arrAt 17 (cfgs 0).N = k0_pay2 (hidden m c) (m ((c : Thread nD τ).loc main_arg16)) (m ((c : Thread nD τ).loc main_arg17)) := by
  refine (dats m 0 c).arrAt_eq_of_after_last 17 t0_0 (by decide +kernel) _ fun j => ?_
  blk_simp
  rw [after0_17, lastAt_eq, blk12, blk13]

theorem final_18 (c : Dev nD) : (dats m 0 c).arrAt 18 (cfgs 0).N = Model.stats (shapeCast S512x32 (m ((c : Thread nD τ).loc main_arg0)) shapeCasts_S8x2048x1_S512x32) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg4)) (m ((c : Thread nD τ).loc main_arg5)) (m ((c : Thread nD τ).loc main_arg8)) (m ((c : Thread nD τ).loc main_arg9)) := by
  refine (dats m 0 c).arrAt_eq_of_after_last 18 t0_0 (by decide +kernel) _ fun j => ?_
  blk_simp
  rw [after0_18, blk0, blk1, blk2, blk3, blk4, blk5, V_main_arg4, V_main_arg5, V_main_arg8, V_main_arg9]

variable (ρ : Dev nD → PrngReg)

/-- The kernel's run: the five result arrays as functions of the arguments, and the arguments unchanged. -/
theorem value_run : θ_run defs (onTc (τ := τ) (main (F := F))) ⟨m, fun _ => 0, ρ⟩ (fun r => ∀ c : Dev nD,
      r.2.mem ((c.tc : Thread nD τ).loc main_v1_0) = Model.out1 (hidden m c) (m ((c : Thread nD τ).loc main_arg10)) (m ((c : Thread nD τ).loc main_arg11))
      ∧ r.2.mem ((c.tc : Thread nD τ).loc main_v1_1) = Model.out8 (hidden m c) (m ((c : Thread nD τ).loc main_arg12)) (m ((c : Thread nD τ).loc main_arg13))
      ∧ r.2.mem ((c.tc : Thread nD τ).loc main_v1_2) = k0_pay1 (hidden m c) (m ((c : Thread nD τ).loc main_arg14)) (m ((c : Thread nD τ).loc main_arg15))
      ∧ r.2.mem ((c.tc : Thread nD τ).loc main_v1_3) = k0_pay2 (hidden m c) (m ((c : Thread nD τ).loc main_arg16)) (m ((c : Thread nD τ).loc main_arg17))
      ∧ r.2.mem ((c.tc : Thread nD τ).loc main_v1_4) = Model.stats (shapeCast S512x32 (m ((c : Thread nD τ).loc main_arg0)) shapeCasts_S8x2048x1_S512x32) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg4)) (m ((c : Thread nD τ).loc main_arg5)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ?_) (θ_run_and (unchanged m ρ) (run_main_quiescent m ρ))
  have hu := h.1 c
  have hw := (h.2.1 c).1
  exact ⟨(hw 14).trans (final_14 m c), (hw 15).trans (final_15 m c), (hw 16).trans (final_16 m c), (hw 17).trans (final_17 m c), (hw 18).trans (final_18 m c), hu⟩

end Cert.KernelIdeal.Body

end
-- ==== Proof.RModel.lean ====
/- The reference's arithmetic as functions of whole tensors. -/
module

public import proofs.«01_k».proof.Proof.Gen.ReferenceIdeal.Run

@[expose] public section

set_option maxRecDepth 16384

noncomputable section

namespace Cert.ReferenceIdeal.Model

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! What the reference computes, layer by layer, as functions of whole tensors. -/

/-- The patches of the series, one row each. -/
def patches (x : FVec F S8x2048x1 .f32) : FVec F S8x64x32 .f32 :=
  shapeCast S8x64x32 (transpose S8x64x1x32 [0, 1, 3, 2] (shapeCast S8x64x32x1 x shapeCasts_S8x2048x1_S8x64x32x1) transposes_S8x64x32x1_S8x64x1x32_0_1_3_2) shapeCasts_S8x64x1x32_S8x64x32

/-- A product of the patches. -/
def patchDot (x : FVec F S8x64x32 .f32) (w : FVec F S32x1024 .f32) : FVec F S8x64x1024 .f32 :=
  Host.dotGeneral dot_S8x64x32_S32x1024_S8x64x1024_2_0_01_1_n_n none x w

/-- The gated embedding. -/
def emb (g e : FVec F S8x64x1024 .f32) : FVec F S8x64x1024 .f32 :=
  mulf (mulf g (Host.divf (broadcastInDim S8x64x1024 ![] bcast_S_S8x64x1024 (constant S_ .f32 0x3F800000#32)) (addf (broadcastInDim S8x64x1024 ![] bcast_S_S8x64x1024 (constant S_ .f32 0x3F800000#32)) (Host.exp (Host.negf g))))) e

/-- `x * w * rsqrt (mean (x * x) + 1e-6)`, row by row. -/
def norm (h : FVec F S8x64x1024 .f32) (w : FVec F S1024 .f32) : FVec F S8x64x1024 .f32 :=
  mulf (mulf h (broadcastInDim S8x64x1024 ![0, 1, 2] bcast_S1x1x1024_S8x64x1024_0_1_2 (broadcastInDim S1x1x1024 ![2] bcast_S1024_S1x1x1024_2 w))) (broadcastInDim S8x64x1024 ![0, 1, 2] bcast_S8x64x1_S8x64x1024_0_1_2 (Host.rsqrt (addf (Host.divf (broadcastInDim S8x64x1 ![0, 1] bcast_S8x64_S8x64x1_0_1 (Host.reduceAdd (mulf h h) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))))

/-- The projection to queries, keys and values. -/
def proj (x : FVec F S8x64x1024 .f32) (w : FVec F S1024x3072 .f32) : FVec F S8x64x3072 .f32 :=
  Host.dotGeneral dot_S8x64x1024_S1024x3072_S8x64x3072_2_0_01_1_n_n none x w

/-- Every head's scores, scaled and masked. -/
def scores (x : FVec F S8x64x3072 .f32) : FVec F S8x16x64x64 .f32 :=
  select (broadcastInDim S8x16x64x64 ![2, 3] bcast_S64x64_S8x16x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.divf (Host.dotGeneral dot_S8x16x64x64_S8x16x64x64_S8x16x64x64_3_2_2_3_01_01 none (transpose S8x16x64x64 [0, 2, 1, 3] (shapeCast _ (extractStridedSlice S8x64x1024 ![0, 0, 0] x slices_S8x64x3072_S8x64x1024_0_0_0) shapeCasts_S8x64x1024_S8x64x16x64) transposes_S8x64x16x64_S8x16x64x64_0_2_1_3) (transpose S8x16x64x64 [0, 1, 3, 2] (transpose S8x16x64x64 [0, 2, 1, 3] (shapeCast _ (extractStridedSlice S8x64x1024 ![0, 0, 1024] x slices_S8x64x3072_S8x64x1024_0_0_1024) shapeCasts_S8x64x1024_S8x64x16x64) transposes_S8x64x16x64_S8x16x64x64_0_2_1_3) transposes_S8x16x64x64_S8x16x64x64_0_1_3_2)) (broadcastInDim S8x16x64x64 ![] bcast_S_S8x16x64x64 (constant S_ .f32 0x41000000#32))) (broadcastInDim S8x16x64x64 ![] bcast_S_S8x16x64x64 (id (constant S_ .f32 0xFF800000#32)))

/-- The exponentials of the scores less their row maximum. -/
def expRow (s : FVec F S8x16x64x64 .f32) : FVec F S8x16x64x64 .f32 :=
  Host.exp (subf s (broadcastInDim S8x16x64x64 ![0, 1, 2, 3] bcast_S8x16x64x1_S8x16x64x64_0_1_2_3 (broadcastInDim S8x16x64x1 ![0, 1, 2] bcast_S8x16x64_S8x16x64x1_0_1_2 (maximumf (broadcastInDim S8x16x64 ![] bcast_S_S8x16x64 (constant S_ .f32 0xFF800000#32)) (Host.reduce FloatOps.maximumf s (constant S_ .f32 0xFF800000#32) reducesTo_S8x16x64x64_S8x16x64_d3 h_S_)))))

/-- The attention with its residual. -/
def attn (e : FVec F S8x16x64x64 .f32) (x : FVec F S8x64x3072 .f32) (ni : FVec F S8x64x1024 .f32) (w : FVec F S1024x1024 .f32) : FVec F S8x64x1024 .f32 :=
  addf (Host.dotGeneral dot_S8x64x1024_S1024x1024_S8x64x1024_2_0_01_1_n_n none (shapeCast _ (transpose S8x64x16x64 [0, 2, 1, 3] (Host.dotGeneral dot_S8x16x64x64_S8x16x64x64_S8x16x64x64_3_2_2_3_01_01 none (Host.divf e (broadcastInDim S8x16x64x64 ![0, 1, 2, 3] bcast_S8x16x64x1_S8x16x64x64_0_1_2_3 (broadcastInDim S8x16x64x1 ![0, 1, 2] bcast_S8x16x64_S8x16x64x1_0_1_2 (Host.reduceAdd e (constant S_ .f32 0x00000000#32) reducesTo_S8x16x64x64_S8x16x64_d3 h_S_)))) (transpose S8x16x64x64 [0, 2, 1, 3] (shapeCast _ (extractStridedSlice S8x64x1024 ![0, 0, 2048] x slices_S8x64x3072_S8x64x1024_0_0_2048) shapeCasts_S8x64x1024_S8x64x16x64) transposes_S8x64x16x64_S8x16x64x64_0_2_1_3)) transposes_S8x16x64x64_S8x64x16x64_0_2_1_3) shapeCasts_S8x64x16x64_S8x64x1024) w) ni

/-- The rows without the batch axis. -/
def flat (h : FVec F S8x64x1024 .f32) : FVec F S512x1024 .f32 :=
  shapeCast _ h shapeCasts_S8x64x1024_S512x1024

/-- The router's logits. -/
def logits (x : FVec F S512x1024 .f32) (w : FVec F S1024x8 .f32) : FVec F S512x8 .f32 :=
  Host.dotGeneral dot_S512x1024_S1024x8_S512x8_1_0_0_1_n_n none x w

/-- The exponentials of the logits less their row maximum. -/
def exp8 (l : FVec F S512x8 .f32) : FVec F S512x8 .f32 :=
  Host.exp (subf l (broadcastInDim S512x8 ![0, 1] bcast_S512x1_S512x8_0_1 (broadcastInDim S512x1 ![0] bcast_S512_S512x1_0 (maximumf (broadcastInDim S512 ![] bcast_S_S512 (constant S_ .f32 0xFF800000#32)) (Host.reduce FloatOps.maximumf l (constant S_ .f32 0xFF800000#32) reducesTo_S512x8_S512_d1 h_S_)))))

/-- The router's probabilities. -/
def probs (e : FVec F S512x8 .f32) : FVec F S512x8 .f32 :=
  Host.divf e (broadcastInDim S512x8 ![0, 1] bcast_S512x1_S512x8_0_1 (broadcastInDim S512x1 ![0] bcast_S512_S512x1_0 (Host.reduceAdd e (constant S_ .f32 0x00000000#32) reducesTo_S512x8_S512_d1 h_S_)))

/-- The two greatest probabilities. -/
def gates (p : FVec F S512x8 .f32) : FVec F S512x2 .f32 :=
  (Host.topK S512x2 1 (FloatOps.cmpfTotal .gt) p sliceFits_S512x8_S512x2).1

/-- The picks as rows of zeros and a one. -/
def hots (p : FVec F S512x8 .f32) : FVec F S512x2x8 .f32 :=
  uitofp .f32 (cmpi .eq (broadcastInDim S512x2x8 ![0, 1, 2] bcast_S512x2x1_S512x2x8_0_1_2 (broadcastInDim S512x2x1 ![0, 1] bcast_S512x2_S512x2x1_0_1 ((Host.topK S512x2 1 (FloatOps.cmpfTotal .gt) p sliceFits_S512x8_S512x2).2))) (broadcastInDim S512x2x8 ![0, 1, 2] bcast_S1x1x8_S512x2x8_0_1_2 (iotaInDim S1x1x8 32 2)))

/-- All first picks, then all second picks. -/
def queue (a : FVec F S512x2x8 .f32) : FVec F S1024x8 .f32 :=
  shapeCast _ (transpose S2x512x8 [1, 0, 2] a transposes_S512x2x8_S2x512x8_1_0_2) shapeCasts_S2x512x8_S1024x8

/-- Each pick's place in its expert's queue. -/
def places (q : FVec F S1024x8 .f32) : FVec F S1024 .f32 :=
  Host.reduceAdd (mulf (subf (Host.reduceWindowAdd ![1024, 1] ![1, 1] ![1023, 0] ![0, 0] q (broadcastInDim S_ ![] bcast_S_S_ (constant S_ .f32 0x00000000#32)) reduceWindows_S1024x8_S1024x8_w1024s1p1023_0_w1s1p0_0 h_S_) q) q) (constant S_ .f32 0x00000000#32) reducesTo_S1024x8_S1024_d1 h_S_

/-- Whether a place is within the capacity. -/
def kept (p : FVec F S1024 .f32) : FVec F S512x2 .f32 :=
  transpose S512x2 [1, 0] (shapeCast _ (uitofp .f32 (cmpf .olt p (broadcastInDim S1024 ![] bcast_S_S1024 (constant S_ .f32 0x43200000#32)))) shapeCasts_S1024_S2x512) transposes_S2x512_S512x2_1_0

/-- A pick's place as a row of zeros and a one. -/
def slots (p : FVec F S1024 .f32) : FVec F S512x2x160 .f32 :=
  uitofp .f32 (cmpi .eq (broadcastInDim S512x2x160 ![0, 1, 2] bcast_S512x2x1_S512x2x160_0_1_2 (broadcastInDim S512x2x1 ![0, 1] bcast_S512x2_S512x2x1_0_1 (fptosi 32 (transpose S512x2 [1, 0] (shapeCast _ p shapeCasts_S1024_S2x512) transposes_S2x512_S512x2_1_0)))) (broadcastInDim S512x2x160 ![0, 1, 2] bcast_S1x1x160_S512x2x160_0_1_2 (iotaInDim S1x1x160 32 2)))

/-- The dispatch tensor. -/
def disp (a : FVec F S512x2x8 .f32) (k : FVec F S512x2 .f32) (s : FVec F S512x2x160 .f32) : FVec F S512x8x160 .f32 :=
  Host.dotGeneral dot_S512x2x8_S512x2x160_S512x8x160_1_1_2_2_0_0 none (mulf a (broadcastInDim S512x2x8 ![0, 1, 2] bcast_S512x2x1_S512x2x8_0_1_2 (broadcastInDim S512x2x1 ![0, 1] bcast_S512x2_S512x2x1_0_1 k))) s

/-- The first product of every expert. -/
def dense1 (d : FVec F S512x8x160 .f32) (x : FVec F S512x1024 .f32) (w : FVec F S8x1024x1024 .f32) : FVec F S8x160x1024 .f32 :=
  Host.dotGeneral dot_S8x160x1024_S8x1024x1024_S8x160x1024_2_1_1_2_0_0 none (Host.dotGeneral dot_S512x8x160_S512x1024_S8x160x1024_0_0_12_1_n_n none d x) w

/-- The layer's result. -/
def next (x : FVec F S512x1024 .f32) (g : FVec F S512x2 .f32) (k : FVec F S512x2 .f32) (a : FVec F S512x2x8 .f32) (s : FVec F S512x2x160 .f32) (u : FVec F S8x160x1024 .f32) (h : FVec F S8x64x1024 .f32) (w : FVec F S8x1024x1024 .f32) : FVec F S8x64x1024 .f32 :=
  addf (shapeCast _ (addf x (Host.dotGeneral dot_S512x8x160_S8x160x1024_S512x1024_21_10_0_2_n_n none (Host.dotGeneral dot_S512x2x8_S512x2x160_S512x8x160_1_1_2_2_0_0 none (mulf (broadcastInDim S512x2x8 ![0, 1, 2] bcast_S512x2x1_S512x2x8_0_1_2 (broadcastInDim S512x2x1 ![0, 1] bcast_S512x2_S512x2x1_0_1 (mulf (Host.divf g (broadcastInDim S512x2 ![0, 1] bcast_S512x1_S512x2_0_1 (addf (broadcastInDim S512x1 ![0] bcast_S512_S512x1_0 (Host.reduceAdd g (constant S_ .f32 0x00000000#32) reducesTo_S512x2_S512_d1 h_S_)) (broadcastInDim S512x1 ![] bcast_S_S512x1 (constant S_ .f32 0x3089705F#32))))) k))) a) s) (Host.dotGeneral dot_S8x160x1024_S8x1024x1024_S8x160x1024_2_1_1_2_0_0 none (mulf u (Host.divf (broadcastInDim S8x160x1024 ![] bcast_S_S8x160x1024 (constant S_ .f32 0x3F800000#32)) (addf (broadcastInDim S8x160x1024 ![] bcast_S_S8x160x1024 (constant S_ .f32 0x3F800000#32)) (Host.exp (Host.negf u))))) w))) shapeCasts_S512x1024_S8x64x1024) h

/-! ## The reference's named values -/

variable (V0 : Valuation τ sig (Elt F))

theorem emb_v6 : res_main_v6 V0 = emb (patchDot (patches (V0 (Proc.devRef .tc main_arg0))) (V0 (Proc.devRef .tc main_arg2))) (patchDot (patches (V0 (Proc.devRef .tc main_arg0))) (V0 (Proc.devRef .tc main_arg1))) := rfl

theorem norm_v22 : res_main_v22 V0 = norm (res_main_v6 V0) (shapeCast S1024 (extractStridedSlice S1x1024 ![0, 0] (V0 (Proc.devRef .tc main_arg3)) slices_S2x1024_S1x1024_0_0) shapeCasts_S1x1024_S1024) := rfl

theorem norm_v149 : res_main_v149 V0 = norm (res_main_v134 V0) (shapeCast S1024 (extractStridedSlice S1x1024 ![1, 0] (V0 (Proc.devRef .tc main_arg3)) slices_S2x1024_S1x1024_1_0) shapeCasts_S1x1024_S1024) := rfl

theorem proj_v27 : res_main_v27 V0 = proj (res_main_v22 V0) (shapeCast S1024x3072 (extractStridedSlice S1x1024x3072 ![0, 0, 0] (V0 (Proc.devRef .tc main_arg4)) slices_S2x1024x3072_S1x1024x3072_0_0_0) shapeCasts_S1x1024x3072_S1024x3072) := rfl

theorem proj_v154 : res_main_v154 V0 = proj (res_main_v149 V0) (shapeCast S1024x3072 (extractStridedSlice S1x1024x3072 ![1, 0, 0] (V0 (Proc.devRef .tc main_arg4)) slices_S2x1024x3072_S1x1024x3072_1_0_0) shapeCasts_S1x1024x3072_S1024x3072) := rfl

theorem scores_v43 : res_main_v43 V0 = scores (res_main_v27 V0) := rfl

theorem scores_v170 : res_main_v170 V0 = scores (res_main_v154 V0) := rfl

theorem expRow_v50 : res_main_v50 V0 = expRow (res_main_v43 V0) := rfl

theorem expRow_v177 : res_main_v177 V0 = expRow (res_main_v170 V0) := rfl

theorem attn_v59 : res_main_v59 V0 = attn (res_main_v50 V0) (res_main_v27 V0) (res_main_v22 V0) (shapeCast S1024x1024 (extractStridedSlice S1x1024x1024 ![0, 0, 0] (V0 (Proc.devRef .tc main_arg5)) slices_S2x1024x1024_S1x1024x1024_0_0_0) shapeCasts_S1x1024x1024_S1024x1024) := rfl

theorem attn_v186 : res_main_v186 V0 = attn (res_main_v177 V0) (res_main_v154 V0) (res_main_v149 V0) (shapeCast S1024x1024 (extractStridedSlice S1x1024x1024 ![1, 0, 0] (V0 (Proc.devRef .tc main_arg5)) slices_S2x1024x1024_S1x1024x1024_1_0_0) shapeCasts_S1x1024x1024_S1024x1024) := rfl

theorem norm_v74 : res_main_v74 V0 = norm (res_main_v59 V0) (shapeCast S1024 (extractStridedSlice S1x1024 ![0, 0] (V0 (Proc.devRef .tc main_arg6)) slices_S2x1024_S1x1024_0_0) shapeCasts_S1x1024_S1024) := rfl

theorem norm_v201 : res_main_v201 V0 = norm (res_main_v186 V0) (shapeCast S1024 (extractStridedSlice S1x1024 ![1, 0] (V0 (Proc.devRef .tc main_arg6)) slices_S2x1024_S1x1024_1_0) shapeCasts_S1x1024_S1024) := rfl

theorem flat_v75 : res_main_v75 V0 = flat (res_main_v74 V0) := rfl

theorem flat_v202 : res_main_v202 V0 = flat (res_main_v201 V0) := rfl

theorem logits_v82 : res_main_v82 V0 = logits (res_main_v75 V0) (shapeCast S1024x8 (extractStridedSlice S1x1024x8 ![0, 0, 0] (V0 (Proc.devRef .tc main_arg7)) slices_S2x1024x8_S1x1024x8_0_0_0) shapeCasts_S1x1024x8_S1024x8) := rfl

theorem logits_v209 : res_main_v209 V0 = logits (res_main_v202 V0) (shapeCast S1024x8 (extractStridedSlice S1x1024x8 ![1, 0, 0] (V0 (Proc.devRef .tc main_arg7)) slices_S2x1024x8_S1x1024x8_1_0_0) shapeCasts_S1x1024x8_S1024x8) := rfl

theorem exp8_v89 : res_main_v89 V0 = exp8 (res_main_v82 V0) := rfl

theorem exp8_v216 : res_main_v216 V0 = exp8 (res_main_v209 V0) := rfl

theorem probs_v93 : res_main_v93 V0 = probs (res_main_v89 V0) := rfl

theorem probs_v220 : res_main_v220 V0 = probs (res_main_v216 V0) := rfl

theorem gates_values : res_main_values V0 = gates (res_main_v93 V0) := rfl

theorem gates_values_34 : res_main_values_34 V0 = gates (res_main_v220 V0) := rfl

theorem hots_v100 : res_main_v100 V0 = hots (res_main_v93 V0) := rfl

theorem hots_v227 : res_main_v227 V0 = hots (res_main_v220 V0) := rfl

theorem queue_v102 : res_main_v102 V0 = queue (res_main_v100 V0) := rfl

theorem queue_v229 : res_main_v229 V0 = queue (res_main_v227 V0) := rfl

theorem places_v106 : res_main_v106 V0 = places (res_main_v102 V0) := rfl

theorem places_v233 : res_main_v233 V0 = places (res_main_v229 V0) := rfl

theorem kept_v113 : res_main_v113 V0 = kept (res_main_v106 V0) := rfl

theorem kept_v240 : res_main_v240 V0 = kept (res_main_v233 V0) := rfl

theorem slots_v115 : res_main_v115 V0 = slots (res_main_v106 V0) := rfl

theorem slots_v242 : res_main_v242 V0 = slots (res_main_v233 V0) := rfl

theorem disp_v119 : res_main_v119 V0 = disp (res_main_v100 V0) (res_main_v113 V0) (res_main_v115 V0) := rfl

theorem disp_v246 : res_main_v246 V0 = disp (res_main_v227 V0) (res_main_v240 V0) (res_main_v242 V0) := rfl

theorem dense1_v126 : res_main_v126 V0 = dense1 (res_main_v119 V0) (res_main_v75 V0) (shapeCast S8x1024x1024 (extractStridedSlice S1x8x1024x1024 ![0, 0, 0, 0] (V0 (Proc.devRef .tc main_arg8)) slices_S2x8x1024x1024_S1x8x1024x1024_0_0_0_0) shapeCasts_S1x8x1024x1024_S8x1024x1024) := rfl

theorem dense1_v253 : res_main_v253 V0 = dense1 (res_main_v246 V0) (res_main_v202 V0) (shapeCast S8x1024x1024 (extractStridedSlice S1x8x1024x1024 ![1, 0, 0, 0] (V0 (Proc.devRef .tc main_arg8)) slices_S2x8x1024x1024_S1x8x1024x1024_1_0_0_0) shapeCasts_S1x8x1024x1024_S8x1024x1024) := rfl

theorem next_v134 : res_main_v134 V0 = next (res_main_v75 V0) (res_main_values V0) (res_main_v113 V0) (res_main_v100 V0) (res_main_v115 V0) (res_main_v126 V0) (res_main_v74 V0) (shapeCast S8x1024x1024 (extractStridedSlice S1x8x1024x1024 ![0, 0, 0, 0] (V0 (Proc.devRef .tc main_arg9)) slices_S2x8x1024x1024_S1x8x1024x1024_0_0_0_0) shapeCasts_S1x8x1024x1024_S8x1024x1024) := rfl

theorem next_v261 : res_main_v261 V0 = next (res_main_v202 V0) (res_main_values_34 V0) (res_main_v240 V0) (res_main_v227 V0) (res_main_v242 V0) (res_main_v253 V0) (res_main_v201 V0) (shapeCast S8x1024x1024 (extractStridedSlice S1x8x1024x1024 ![1, 0, 0, 0] (V0 (Proc.devRef .tc main_arg9)) slices_S2x8x1024x1024_S1x8x1024x1024_1_0_0_0) shapeCasts_S1x8x1024x1024_S8x1024x1024) := rfl

end Cert.ReferenceIdeal.Model

end
-- ==== Proof.Reals.lean ====
/- Facts about sums, quotients and exponentials of extended reals. -/
module

public import Idealize.ShloMosaic.Lib.Pointwise
public import Idealize.ShloMosaic.Lib.IdealHost

@[expose] public section

noncomputable section

namespace Cert.Reals

open Idealize.ShloMosaic

/-- Neither infinity. -/
def IsReal (x : EReal) : Prop := ∃ r : ℝ, x = (r : EReal)

theorem IsReal.of_ne {x : EReal} (hb : x ≠ ⊥) (ht : x ≠ ⊤) : IsReal x := ⟨x.toReal, (EReal.coe_toReal ht hb).symm⟩

theorem IsReal.ne_bot {x : EReal} : IsReal x → x ≠ ⊥ := by rintro ⟨r, rfl⟩; exact EReal.coe_ne_bot r

theorem IsReal.ne_top {x : EReal} : IsReal x → x ≠ ⊤ := by rintro ⟨r, rfl⟩; exact EReal.coe_ne_top r

theorem IsReal.zero : IsReal 0 := ⟨0, rfl⟩

theorem IsReal.coe (r : ℝ) : IsReal (r : EReal) := ⟨r, rfl⟩

theorem IsReal.add {x y : EReal} : IsReal x → IsReal y → IsReal (x + y) := by
  rintro ⟨r, rfl⟩ ⟨s, rfl⟩; exact ⟨r + s, (EReal.coe_add r s).symm⟩

theorem IsReal.mul {x y : EReal} : IsReal x → IsReal y → IsReal (x * y) := by
  rintro ⟨r, rfl⟩ ⟨s, rfl⟩; exact ⟨r * s, (EReal.coe_mul r s).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## Constants -/

theorem ofBits_1024 : Ideal.ofBits .f32 1149239296#32 = ((1024 : ℝ) : EReal) := by
  simp [Ideal.ofBits, Ideal.ieee, -EReal.coe_mul]; norm_num

theorem ofBits_eighth : Ideal.ofBits .f32 1040187392#32 = ((1 / 8 : ℝ) : EReal) := by
  simp [Ideal.ofBits, Ideal.ieee, -EReal.coe_mul]; norm_num

theorem ofBits_8 : Ideal.ofBits .f32 1090519040#32 = ((8 : ℝ) : EReal) := by
  simp [Ideal.ofBits, Ideal.ieee, -EReal.coe_mul]; norm_num

theorem ofBits_160 : Ideal.ofBits .f32 1126170624#32 = ((160 : ℝ) : EReal) := by
  simp [Ideal.ofBits, Ideal.ieee, -EReal.coe_mul]; norm_num

theorem ofBits_2 : Ideal.ofBits .f32 1073741824#32 = ((2 : ℝ) : EReal) := by
  simp [Ideal.ofBits, Ideal.ieee, -EReal.coe_mul]; norm_num

theorem ofBits_neg_one : Ideal.ofBits .f32 3212836864#32 = ((-1 : ℝ) : EReal) := by
  simp [Ideal.ofBits, Ideal.ieee, -EReal.coe_mul, -EReal.coe_neg]; norm_num

theorem ofBits_bot : Ideal.ofBits .f32 4286578688#32 = ⊥ := by
  simp [Ideal.ofBits, Ideal.ieee]

theorem ofBits_eps : ∃ r : ℝ, 0 < r ∧ Ideal.ofBits .f32 897988541#32 = (r : EReal) := by
  refine ⟨_, ?_, by simp [Ideal.ofBits, Ideal.ieee, -EReal.coe_mul]; rfl⟩
  norm_num

/-! ## The root mean square -/

theorem mul_self_nonneg (x : EReal) : 0 ≤ x * x := by
  induction x with
  | bot => simp
  | coe r => rw [← EReal.coe_mul]; exact EReal.coe_nonneg.mpr (_root_.mul_self_nonneg r)
  | top => simp

theorem rsqrt_top : Ideal.rsqrt ⊤ = 0 := rfl

theorem rsqrt_of_pos {r : ℝ} (h : 0 < r) : Ideal.rsqrt (r : EReal) = ((Real.sqrt r)⁻¹ : ℝ) := by
  change (if r < 0 then ⊥ else if r = 0 then ⊤ else (((Real.sqrt r)⁻¹ : ℝ) : EReal)) = _
  rw [if_neg (not_lt.mpr h.le), if_neg h.ne']

/-- A row normalized by its root mean square and scaled by a real is real, whatever the row is. -/
theorem isReal_rms {n : ℕ} (x : Fin n → EReal) (w : EReal) (hw : IsReal w) (d : Fin n) :
    IsReal (x d * w * Ideal.rsqrt (Ideal.div (∑ k, x k * x k) (Ideal.ofBits .f32 1149239296#32) + Ideal.ofBits .f32 897988541#32)) := by
  obtain ⟨e, he, hE⟩ := ofBits_eps
  rw [ofBits_1024, hE, Ideal.div_coe (by norm_num)]
  by_cases h : ∀ k, IsReal (x k)
  · have hs : IsReal (∑ k, x k * x k) := IsReal.sum _ _ fun k _ => (h k).mul (h k)
    have h0 : (0 : EReal) ≤ ∑ k, x k * x k := Finset.sum_nonneg fun k _ => mul_self_nonneg _
    refine ((h d).mul hw).mul ?_
    obtain ⟨s, hs⟩ := hs
    rw [hs] at h0 ⊢
    have h0 : 0 ≤ s := EReal.coe_nonneg.mp h0
    rw [← EReal.coe_mul, ← EReal.coe_add]
    have hp : 0 < s * (1 / 1024) + e := by positivity
    exact ⟨_, rsqrt_of_pos hp⟩
  · push Not at h
    obtain ⟨k, hk⟩ := h
    have hkk : x k * x k = ⊤ := by
      by_cases hb : x k = ⊥
      · rw [hb]; simp
      · by_cases ht : x k = ⊤
        · rw [ht]; simp
        · exact absurd (IsReal.of_ne hb ht) hk
    have hs : (∑ k, x k * x k) = ⊤ := by
      have := Finset.single_le_sum (f := fun k => x k * x k) (fun i _ => mul_self_nonneg (x i)) (Finset.mem_univ k)
      simp only [hkk] at this
      exact top_le_iff.mp this
    rw [hs, EReal.top_mul_coe_of_pos (by norm_num), EReal.top_add_coe]
    rw [rsqrt_top, mul_zero]
    exact IsReal.zero

/-! ## Sums over a product of ranges -/

/-- Row `t` of batch `b`. -/
def row (b : Fin 8) (t : Fin 64) : Fin 512 := ⟨b.val * 64 + t.val, by omega⟩

theorem exists_row (n : Fin 512) : ∃ b t, n = row b t :=
  ⟨⟨n.val / 64, by omega⟩, ⟨n.val % 64, by omega⟩, Fin.ext (by simp only [row]; omega)⟩

theorem row_inj {b b' : Fin 8} {t t' : Fin 64} (h : row b t = row b' t') : b = b' ∧ t = t' := by
  have := congrArg Fin.val h
  simp only [row] at this
  exact ⟨Fin.ext (by omega), Fin.ext (by omega)⟩

/-- A sum over the rows whose terms vanish outside a batch. -/
theorem sum_batch (f : Fin 512 → EReal) (b : Fin 8) (h : ∀ b' t, b' ≠ b → f (row b' t) = 0) : ∑ n, f n = ∑ t, f (row b t) := by
  symm
  refine Finset.sum_of_injOn (row b) (fun t _ t' _ h => (row_inj h).2) (fun _ _ => Finset.mem_univ _) (fun n _ hn => ?_) (fun _ _ => rfl)
  obtain ⟨b', t', rfl⟩ := exists_row n
  refine h b' t' fun e => hn ?_
  subst e
  exact ⟨t', by simp, rfl⟩

theorem sup_batch (f : Fin 512 → EReal) (b : Fin 8) (h : ∀ b' t, b' ≠ b → f (row b' t) = ⊥) :
    Finset.fold max ⊥ f Finset.univ = Finset.fold max ⊥ (fun t => f (row b t)) Finset.univ := by
  change Finset.sup Finset.univ f = Finset.sup Finset.univ fun t => f (row b t)
  refine le_antisymm (Finset.sup_le fun n _ => ?_) (Finset.sup_le fun t _ => Finset.le_sup (f := f) (Finset.mem_univ (row b t)))
  obtain ⟨b', t', rfl⟩ := exists_row n
  by_cases hb : b' = b
  · subst hb; exact Finset.le_sup (f := fun t => f (row b' t)) (Finset.mem_univ t')
  · rw [h b' t' hb]; exact bot_le

/-! ## The softmax -/

theorem exp_nonneg (x : EReal) : 0 ≤ Ideal.exp x := by
  induction x with
  | bot => simp
  | coe r => rw [Ideal.exp_coe]; exact EReal.coe_nonneg.mpr (Real.exp_pos r).le
  | top => simp

theorem bot_sub (x : EReal) : (⊥ : EReal) - x = ⊥ := by rw [sub_eq_add_neg, EReal.bot_add]

/-- The exponentials' sum is not zero when no score is `⊤` and one is real. -/
theorem sum_exp_ne_zero {n : ℕ} (s : Fin n → EReal) (ht : ∀ k, s k ≠ ⊤) (k₀ : Fin n) (hk : s k₀ ≠ ⊥) :
    (∑ k, Ideal.exp (s k - Finset.fold max ⊥ s Finset.univ)) ≠ 0 := by
  change (∑ k, Ideal.exp (s k - Finset.sup Finset.univ s)) ≠ 0
  obtain ⟨k, -, hM⟩ := Finset.exists_mem_eq_sup (Finset.univ : Finset (Fin n)) ⟨k₀, Finset.mem_univ _⟩ s
  have hb : s k ≠ ⊥ := by
    intro e
    have := Finset.le_sup (f := s) (Finset.mem_univ k₀)
    rw [hM, e] at this
    exact hk (le_bot_iff.mp this)
  obtain ⟨r, hr⟩ := IsReal.of_ne hb (ht k)
  have h1 : Ideal.exp (s k - Finset.sup Finset.univ s) = 1 := by
    rw [hM, hr, ← EReal.coe_sub, sub_self, Ideal.exp_coe, Real.exp_zero]; rfl
  have := Finset.single_le_sum (f := fun k => Ideal.exp (s k - Finset.sup Finset.univ s)) (fun i _ => exp_nonneg _) (Finset.mem_univ k)
  simp only [h1] at this
  intro e
  rw [e] at this
  exact absurd this (by simp)

theorem div_nonneg {x y : EReal} (hx : 0 ≤ x) (hy : 0 ≤ y) (h0 : y ≠ 0) : 0 ≤ Ideal.div x y := by
  unfold Ideal.div
  rw [if_neg h0]
  exact mul_nonneg hx (EReal.inv_nonneg_of_nonneg hy)

theorem div_zero_left {y : EReal} (h0 : y ≠ 0) : Ideal.div 0 y = 0 := by
  unfold Ideal.div
  rw [if_neg h0, zero_mul]

/-- Attention over all rows with every other batch masked is attention within the batch. -/
theorem attend_batch (S v : Fin 512 → EReal) (b : Fin 8) (h : ∀ b' t, b' ≠ b → S (row b' t) = ⊥)
    (ht : ∀ t, S (row b t) ≠ ⊤) (t₀ : Fin 64) (h₀ : S (row b t₀) ≠ ⊥) :
    ∑ n, Ideal.div (Ideal.exp (S n - Finset.fold max ⊥ S Finset.univ)) (∑ m, Ideal.exp (S m - Finset.fold max ⊥ S Finset.univ)) * v n
      = ∑ t, Ideal.div (Ideal.exp (S (row b t) - Finset.fold max ⊥ (fun t => S (row b t)) Finset.univ))
          (∑ t, Ideal.exp (S (row b t) - Finset.fold max ⊥ (fun t => S (row b t)) Finset.univ)) * v (row b t) := by
  have hz : ∀ b' t M, b' ≠ b → Ideal.exp (S (row b' t) - M) = 0 := fun b' t M hb => by rw [h b' t hb, bot_sub, Ideal.exp_bot]
  rw [sup_batch S b h, sum_batch (fun m => Ideal.exp (S m - _)) b fun b' t hb => hz b' t _ hb]
  have hne := sum_exp_ne_zero (fun t => S (row b t)) ht t₀ h₀
  refine sum_batch _ b fun b' t hb => ?_
  rw [hz b' t _ hb, div_zero_left hne, zero_mul]

end Cert.Reals

end
-- ==== Proof.RAt.lean ====
/- The reference's functions at the ideal operations, read at an index. -/
module

public import proofs.«01_k».proof.Proof.RModel
public import proofs.«01_k».proof.Proof.Reals

@[expose] public section

set_option maxRecDepth 16384

noncomputable section

namespace Cert.ReferenceIdeal.Model

open Cert.ReferenceIdeal Cert.ReferenceIdeal.Gen Cert.Reals
open Idealize.ShloMosaic

theorem patches_at (x : FVec Ideal S8x2048x1 .f32) (b : Fin 8) (t : Fin 64) (d : Fin 32) :
    patches x (ix3 b t d) = x (ix3 b ⟨t.val * 32 + d.val, by omega⟩ 0) := by
  pointwise [patches]

theorem patchDot_at (x : FVec Ideal S8x64x32 .f32) (w : FVec Ideal S32x1024 .f32) (b : Fin 8) (t : Fin 64) (d : Fin 1024) :
    patchDot x w (ix3 b t d) = ∑ k, x (ix3 b t k) * w (ix2 k d) := by
  pointwise [patchDot]

theorem emb_at (g e : FVec Ideal S8x64x1024 .f32) (b : Fin 8) (t : Fin 64) (d : Fin 1024) :
    emb g e (ix3 b t d) = g (ix3 b t d) * Ideal.div 1 (1 + Ideal.exp (-g (ix3 b t d))) * e (ix3 b t d) := by
  pointwise [emb]

theorem norm_at (h : FVec Ideal S8x64x1024 .f32) (w : FVec Ideal S1024 .f32) (b : Fin 8) (t : Fin 64) (d : Fin 1024) :
    norm h w (ix3 b t d) = h (ix3 b t d) * w (ix1 d) *
      Ideal.rsqrt (Ideal.div (∑ k, h (ix3 b t k) * h (ix3 b t k)) (Ideal.ofBits .f32 1149239296#32) + Ideal.ofBits .f32 897988541#32) := by
  pointwise [norm]

theorem proj_at (x : FVec Ideal S8x64x1024 .f32) (w : FVec Ideal S1024x3072 .f32) (b : Fin 8) (t : Fin 64) (d : Fin 3072) :
    proj x w (ix3 b t d) = ∑ k, x (ix3 b t k) * w (ix2 k d) := by
  pointwise [proj]

theorem scores_at (x : FVec Ideal S8x64x3072 .f32) (b : Fin 8) (hd : Fin 16) (t s : Fin 64) :
    scores x (ix4 b hd t s) = Scalar.select (Scalar.select (IntOp.cmpi CmpIPredicate.sge (IntOp.addi (BitVec.ofNat 32 t.val) 0#32) (BitVec.ofNat 32 s.val)) 1#1 0#1)
      (Ideal.div (∑ k : Fin 64, x (ix3 b t ⟨hd.val * 64 + k.val, by omega⟩) * x (ix3 b s ⟨1024 + (hd.val * 64 + k.val), by omega⟩)) (Ideal.ofBits .f32 1090519040#32))
      (Ideal.ofBits .f32 4286578688#32) := by
  pointwise [scores]
  rfl

theorem expRow_at (x : FVec Ideal S8x16x64x64 .f32) (b : Fin 8) (hd : Fin 16) (t s : Fin 64) :
    expRow x (ix4 b hd t s) = Ideal.exp (x (ix4 b hd t s) - Finset.fold max ⊥ (fun k => x (ix4 b hd t k)) Finset.univ) := by
  pointwise [expRow]
  rw [ofBits_bot, max_eq_right bot_le]

theorem attn_at (e : FVec Ideal S8x16x64x64 .f32) (x : FVec Ideal S8x64x3072 .f32) (ni : FVec Ideal S8x64x1024 .f32) (w : FVec Ideal S1024x1024 .f32) (b : Fin 8) (t : Fin 64) (d : Fin 1024) :
    attn e x ni w (ix3 b t d) = (∑ j : Fin 1024, (∑ s : Fin 64, Ideal.div (e (ix4 b ⟨j.val / 64, by omega⟩ t s)) (∑ k, e (ix4 b ⟨j.val / 64, by omega⟩ t k)) *
      x (ix3 b s ⟨2048 + j.val, by omega⟩)) * w (ix2 j d)) + ni (ix3 b t d) := by
  pointwise [attn]

theorem flat_at (x : FVec Ideal S8x64x1024 .f32) (b : Fin 8) (t : Fin 64) (d : Fin 1024) : flat x (ix2 (row b t) d) = x (ix3 b t d) := by
  pointwise [flat, row]

theorem logits_at (x : FVec Ideal S512x1024 .f32) (w : FVec Ideal S1024x8 .f32) (n : Fin 512) (e : Fin 8) :
    logits x w (ix2 n e) = ∑ k, x (ix2 n k) * w (ix2 k e) := by
  pointwise [logits]

theorem exp8_at (x : FVec Ideal S512x8 .f32) (n : Fin 512) (e : Fin 8) :
    exp8 x (ix2 n e) = Ideal.exp (x (ix2 n e) - Finset.fold max ⊥ (fun k => x (ix2 n k)) Finset.univ) := by
  pointwise [exp8]
  rw [ofBits_bot, max_eq_right bot_le]

theorem probs_at (x : FVec Ideal S512x8 .f32) (n : Fin 512) (e : Fin 8) : probs x (ix2 n e) = Ideal.div (x (ix2 n e)) (∑ k, x (ix2 n k)) := by
  pointwise [probs]

theorem hots_at (p : FVec Ideal S512x8 .f32) (n : Fin 512) (k : Fin 2) (e : Fin 8) :
    hots p (ix3 n k e) = FloatOps.uitofp (F := Ideal) .f32 (IntOp.cmpi .eq
      ((Host.topK S512x2 1 (FloatOps.cmpfTotal (F := Ideal) (φ := .f32) .gt) p sliceFits_S512x8_S512x2).2 (ix2 n k)) (BitVec.ofNat 32 e.val)) := by
  pointwise [hots]

theorem queue_at (x : FVec Ideal S512x2x8 .f32) (n : Fin 1024) (e : Fin 8) :
    queue x (ix2 n e) = x (ix3 ⟨n.val % 512, by omega⟩ ⟨n.val / 512, by omega⟩ e) := by
  pointwise [queue]

theorem places_at (q : FVec Ideal S1024x8 .f32) (n : Fin 1024) :
    places q (ix1 n) = ∑ e, (Host.reduceWindowAdd ![1024, 1] ![1, 1] ![1023, 0] ![0, 0] q
      (broadcastInDim S_ ![] bcast_S_S_ (constant S_ FTy.f32 0#32)) reduceWindows_S1024x8_S1024x8_w1024s1p1023_0_w1s1p0_0 h_S_ (ix2 n e) - q (ix2 n e)) * q (ix2 n e) := by
  pointwise [places]

theorem kept_at (p : FVec Ideal S1024 .f32) (n : Fin 512) (k : Fin 2) :
    kept p (ix2 n k) = FloatOps.uitofp (F := Ideal) .f32 (BitVec.ofBool (decide (p (ix1 ⟨k.val * 512 + n.val, by omega⟩) < Ideal.ofBits .f32 1126170624#32))) := by
  pointwise [kept]

theorem slots_at (p : FVec Ideal S1024 .f32) (n : Fin 512) (k : Fin 2) (c : Fin 160) :
    slots p (ix3 n k c) = FloatOps.uitofp (F := Ideal) .f32
      (IntOp.cmpi .eq (FloatOps.fptosi (F := Ideal) (φ := .f32) 32 (p (ix1 ⟨k.val * 512 + n.val, by omega⟩))) (BitVec.ofNat 32 c.val)) := by
  pointwise [slots]

theorem disp_at (a : FVec Ideal S512x2x8 .f32) (k : FVec Ideal S512x2 .f32) (s : FVec Ideal S512x2x160 .f32) (n : Fin 512) (e : Fin 8) (c : Fin 160) :
    disp a k s (ix3 n e c) = ∑ i, a (ix3 n i e) * k (ix2 n i) * s (ix3 n i c) := by
  pointwise [disp]

theorem dense1_at (d : FVec Ideal S512x8x160 .f32) (x : FVec Ideal S512x1024 .f32) (w : FVec Ideal S8x1024x1024 .f32) (e : Fin 8) (c : Fin 160) (f : Fin 1024) :
    dense1 d x w (ix3 e c f) = ∑ j, (∑ n, d (ix3 n e c) * x (ix2 n j)) * w (ix3 e j f) := by
  pointwise [dense1]

theorem next_at (x : FVec Ideal S512x1024 .f32) (g : FVec Ideal S512x2 .f32) (k : FVec Ideal S512x2 .f32) (a : FVec Ideal S512x2x8 .f32)
    (s : FVec Ideal S512x2x160 .f32) (u : FVec Ideal S8x160x1024 .f32) (h : FVec Ideal S8x64x1024 .f32) (w : FVec Ideal S8x1024x1024 .f32) (b : Fin 8) (t : Fin 64) (f : Fin 1024) :
    next x g k a s u h w (ix3 b t f) = x (ix2 (row b t) f)
      + (∑ c, ∑ e, (∑ i, Ideal.div (g (ix2 (row b t) i)) ((∑ i, g (ix2 (row b t) i)) + Ideal.ofBits .f32 814313567#32) * k (ix2 (row b t) i) * a (ix3 (row b t) i e) * s (ix3 (row b t) i c))
          * ∑ j, u (ix3 e c j) * Ideal.div 1 (1 + Ideal.exp (-u (ix3 e c j))) * w (ix3 e j f))
      + h (ix3 b t f) := by
  pointwise [next, row]

end Cert.ReferenceIdeal.Model

end
-- ==== Proof.KAt.lean ====
/- The kernel's functions at the ideal operations, read at an index. -/
module

public import proofs.«01_k».proof.Proof.Loads
public import proofs.«01_k».proof.Proof.Reals

@[expose] public section

set_option maxRecDepth 16384

noncomputable section

namespace Cert.KernelIdeal.Model

open Cert.KernelIdeal.Gen Cert.Reals
open Idealize.ShloMosaic

/-- A bit widened and read as a float is one or zero. -/
theorem sitofp_bit (b : BitVec 1) : FloatOps.sitofp (F := Ideal) .f32 (BitVec.setWidth 32 b) = if b = 1#1 then 1 else 0 := by
  rcases (show b = 0#1 ∨ b = 1#1 by bv_omega) with rfl | rfl
  · change (((BitVec.setWidth 32 0#1).toInt : ℝ) : EReal) = _
    norm_num
  · change (((BitVec.setWidth 32 1#1).toInt : ℝ) : EReal) = _
    norm_num

theorem ofNat_inj {a b : ℕ} (ha : a < 2 ^ 32) (hb : b < 2 ^ 32) : BitVec.ofNat 32 a = BitVec.ofNat 32 b ↔ a = b :=
  ⟨fun h => by
    have := congrArg BitVec.toNat h
    rwa [BitVec.toNat_ofNat, BitVec.toNat_ofNat, Nat.mod_eq_of_lt ha, Nat.mod_eq_of_lt hb] at this, fun h => h ▸ rfl⟩

/-- The signed order of two small numbers. -/
theorem slt_ofNat {a b : ℕ} (ha : a < 2 ^ 31) (hb : b < 2 ^ 31) : (BitVec.ofNat 32 a).slt (BitVec.ofNat 32 b) = decide (a < b) := by
  rw [BitVec.slt_eq_decide, BitVec.toInt_ofNat', BitVec.toInt_ofNat']
  congr 1
  apply propext
  rw [Int.bmod_eq_of_le (by omega) (by omega), Int.bmod_eq_of_le (by omega) (by omega)]
  omega

theorem ofBool_eq_one (b : Bool) : BitVec.ofBool b = 1#1 ↔ b = true := by cases b <;> decide

theorem and_bits (a b : Bool) : BitVec.ofBool a &&& BitVec.ofBool b = BitVec.ofBool (a && b) := by cases a <;> cases b <;> decide

theorem rms_at (x : FVec Ideal S512x1024 .f32) (w : FVec Ideal S1x1024 .f32) (n : Fin 512) (d : Fin 1024) :
    rms x w (ix2 n d) = x (ix2 n d) * w (ix2 0 d) *
      Ideal.rsqrt (Ideal.div (∑ k, x (ix2 n k) * x (ix2 n k)) (Ideal.ofBits .f32 1149239296#32) + Ideal.ofBits .f32 897988541#32) := by
  pointwise [rms]

theorem proj_at (x : FVec Ideal S512x1024 .f32) (w : FVec Ideal S1024x3072 .f32) (n : Fin 512) (d : Fin 3072) :
    proj x w (ix2 n d) = ∑ k, x (ix2 n k) * w (ix2 k d) := by
  pointwise [proj]

theorem emb_at (x0 : FVec Ideal S512x32 .f32) (x1 x2 : FVec Ideal S32x1024 .f32) (n : Fin 512) (d : Fin 1024) :
    emb (F := Ideal) x0 x1 x2 (ix2 n d) = (∑ k, x0 (ix2 n k) * x2 (ix2 k d)) * Ideal.div 1 (1 + Ideal.exp (0 - ∑ k, x0 (ix2 n k) * x2 (ix2 k d)))
      * ∑ k, x0 (ix2 n k) * x1 (ix2 k d) := by
  pointwise [emb, k0_pay4]

/-- A row's batch, as the kernel's integer division has it. -/
theorem batch_word : ∀ n : Fin 512, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

theorem mask_at (n m : Fin 512) : mask (ix2 n m) = if n.val / 64 = m.val / 64 ∧ m.val ≤ n.val then 1#1 else 0#1 := by
  pointwise [mask, k0_pay8, k0_pay5, k0_pay6, k0_pay7]
  rw [batch_word n, batch_word m]
  simp only [IntOp.cmpi, IntOp.andi]
  rw [and_bits, BitVec.sle_eq_not_slt, slt_ofNat (by omega) (by omega)]
  by_cases h : n.val / 64 = m.val / 64 ∧ m.val ≤ n.val
  · rw [if_pos h, h.1, beq_self_eq_true, decide_eq_false (by omega)]; rfl
  · rw [if_neg h]
    by_cases h' : n.val / 64 = m.val / 64
    · rw [decide_eq_true (by omega), Bool.not_true, Bool.and_false]; rfl
    · rw [beq_eq_false_iff_ne.mpr fun e => h' ((ofNat_inj (by omega) (by omega)).mp e), Bool.false_and]; rfl

theorem lower_at (n m : Fin 512) : lower (F := Ideal) (ix2 n m) = if m.val < n.val then 1 else 0 := by
  pointwise [lower, k0_pay9]
  rw [sitofp_bit]
  refine if_congr ?_ rfl rfl
  simp only [IntOp.cmpi]
  rw [slt_ofNat (by omega) (by omega), ofBool_eq_one, decide_eq_true_eq]

theorem slotHead_at (msk : IVec S512x512 1) (x : FVec Ideal S512x3072 .f32) (a b c : Nat) (ha hb hc) (n : Fin 512) (d : Fin 64)
    (ka kb kc : Fin 64 → Fin 3072) (hka : ∀ k, (ka k).val = a + k.val) (hkb : ∀ k, (kb k).val = b + k.val) (hkc : ∀ k, (kc k).val = c + k.val)
    (S : Fin 512 → EReal) (hS : ∀ m, S m = Scalar.select (msk (ix2 n m)) ((∑ k, x (ix2 n (ka k)) * x (ix2 m (kb k))) * Ideal.ofBits .f32 1040187392#32) ⊥) :
    slotHead msk x a b c ha hb hc (ix2 n d) = ∑ m, Ideal.div (Ideal.exp (S m - Finset.fold max ⊥ S Finset.univ))
      (∑ m, Ideal.exp (S m - Finset.fold max ⊥ S Finset.univ)) * x (ix2 m (kc d)) := by
  obtain rfl : S = _ := funext hS
  have lka : ∀ k : Fin 64, a + k.val < 3072 := fun k => hka k ▸ (ka k).isLt
  obtain rfl : ka = fun k => ⟨a + k.val, lka k⟩ := funext fun k => Fin.ext (hka k)
  have lkb : ∀ k : Fin 64, b + k.val < 3072 := fun k => hkb k ▸ (kb k).isLt
  obtain rfl : kb = fun k => ⟨b + k.val, lkb k⟩ := funext fun k => Fin.ext (hkb k)
  have lkc : ∀ k : Fin 64, c + k.val < 3072 := fun k => hkc k ▸ (kc k).isLt
  obtain rfl : kc = fun k => ⟨c + k.val, lkc k⟩ := funext fun k => Fin.ext (hkc k)
  have e : Named.named (F := Ideal) (φ := .f32) κ "mask" 3463342888#32 = ⊥ := IdealRules.named_const.ideal_named_scalar _ _ _ _ rfl
  pointwise [slotHead, head, expRow, scores]
  rw [e, ofBits_bot]

theorem attn_at (msk : IVec S512x512 1) (x : FVec Ideal S512x3072 .f32) (ni : FVec Ideal S512x1024 .f32) (w : FVec Ideal S1024x1024 .f32) (n : Fin 512) (d : Fin 1024)  :
   attn msk x ni w (ix2 n d) = (∑ j, ctx msk x (ix2 n j) * w (ix2 j d)) + ni (ix2 n d) := by
  pointwise [attn]

theorem logits_at (x : FVec Ideal S512x1024 .f32) (w : FVec Ideal S1x1024x8 .f32) (n : Fin 512) (e : Fin 8) :
    logits x w (ix2 n e) = ∑ k, x (ix2 n k) * w (ix3 0 k e) := by
  pointwise [logits]

theorem softmax8_at (x : FVec Ideal S512x8 .f32) (n : Fin 512) (e : Fin 8) :
    softmax8 x (ix2 n e) = Ideal.div (Ideal.exp (x (ix2 n e) - Finset.fold max ⊥ (fun k => x (ix2 n k)) Finset.univ))
      (∑ e, Ideal.exp (x (ix2 n e) - Finset.fold max ⊥ (fun k => x (ix2 n k)) Finset.univ)) := by
  pointwise [softmax8, exp8, rowSum, rowMax]
  rw [ofBits_bot]

theorem rowMax_at (x : FVec Ideal S512x8 .f32) (n : Fin 512) : rowMax x (ix2 n 0) = Finset.fold max ⊥ (fun k => x (ix2 n k)) Finset.univ := by
  pointwise [rowMax]
  rw [ofBits_bot]

theorem argMax_at (x : FVec Ideal S512x8 .f32) (n : Fin 512) : argMax x (ix2 n 0) = Finset.fold IntOp.minsi 2147483647#32
      (fun k : Fin 8 => if x (ix2 n k) = Finset.fold max ⊥ (fun k => x (ix2 n k)) Finset.univ then BitVec.ofNat 32 k.val else 8#32) Finset.univ := by
  pointwise [argMax, rowMax, lane]
  rw [ofBits_bot]

theorem hot_at (i : IVec S512x1 32) (n : Fin 512) (e : Fin 8) : hot (F := Ideal) i (ix2 n e) = if BitVec.ofNat 32 e.val = i (ix2 n 0) then 1 else 0 := by
  pointwise [hot, picked, lane]
  rw [sitofp_bit]
  simp only [IntOp.cmpi, ofBool_eq_one, beq_iff_eq]

theorem dropped_at (x : FVec Ideal S512x8 .f32) (i : IVec S512x1 32) (n : Fin 512) (e : Fin 8) :
    dropped x i (ix2 n e) = if BitVec.ofNat 32 e.val = i (ix2 n 0) then ((-1 : ℝ) : EReal) else x (ix2 n e) := by
  pointwise [dropped, picked, lane]
  rw [ofBits_neg_one]
  simp only [IntOp.cmpi, Scalar.select]
  exact if_congr ((ofBool_eq_one _).trans beq_iff_eq) rfl rfl

theorem place0_at (a : FVec Ideal S512x8 .f32) (n : Fin 512) : place0 a (ix2 n 0) = ∑ e, (∑ m, lower (F := Ideal) (ix2 n m) * a (ix2 m e)) * a (ix2 n e) := by
  pointwise [place0, before, rowSum]

theorem place1_at (a b : FVec Ideal S512x8 .f32) (n : Fin 512) : place1 a b (ix2 n 0)
    = ∑ e, ((∑ m, lower (F := Ideal) (ix2 n m) * b (ix2 m e)) + ∑ m, a (ix2 m e)) * b (ix2 n e) := by
  pointwise [place1, before, rowSum, colSum]

theorem kept_at (p : FVec Ideal S512x1 .f32) (n : Fin 512) : kept p (ix2 n 0) = if p (ix2 n 0) < ((160 : ℝ) : EReal) then 1 else 0 := by
  pointwise [kept]
  rw [sitofp_bit, ofBits_160]
  by_cases h : p (ix2 n 0) < ((160 : ℝ) : EReal)
  · rw [if_pos h, decide_eq_true h]; rfl
  · rw [if_neg h, decide_eq_false h]; rfl

theorem share_at (x a b : FVec Ideal S512x1 .f32) (n : Fin 512) : share x a b (ix2 n 0) = Ideal.div (x (ix2 n 0)) (a (ix2 n 0) + b (ix2 n 0) + Ideal.ofBits .f32 814313567#32) := by
  pointwise [share]

theorem count_at (k0 : FVec Ideal S512x1 .f32) (a : FVec Ideal S512x8 .f32) (k1 : FVec Ideal S512x1 .f32) (b : FVec Ideal S512x8 .f32) (e : Fin 8) :
    count k0 a k1 b (ix2 0 e) = ∑ n, (k0 (ix2 n 0) * a (ix2 n e) + k1 (ix2 n 0) * b (ix2 n e)) := by
  pointwise [count, colSum]

theorem dispatch_at (w : BitVec 32) (i p : IVec S512x1 32) (n : Fin 512) (c : Fin 160) :
    dispatch (F := Ideal) w i p (ix2 n c) = if i (ix2 n 0) = w ∧ p (ix2 n 0) = BitVec.ofNat 32 c.val then 1 else 0 := by
  pointwise [dispatch, slotNo]
  rw [sitofp_bit]
  simp only [IntOp.cmpi, IntOp.andi]
  exact if_congr (by rw [and_bits, ofBool_eq_one, Bool.and_eq_true, beq_iff_eq, beq_iff_eq]) rfl rfl

theorem expert_at (hs : FVec Ideal S512x1024 .f32) (a b : FVec Ideal S512x160 .f32) (g0 g1 : FVec Ideal S512x1 .f32) (w1 w2 : FVec Ideal S1024x1024 .f32) (n : Fin 512) (f : Fin 1024)
    (u : Fin 160 → Fin 1024 → EReal) (hu : ∀ c j, u c j = ∑ i, (∑ m, (a (ix2 m c) + b (ix2 m c)) * hs (ix2 m i)) * w1 (ix2 i j)) :
    expert hs a b g0 g1 w1 w2 (ix2 n f) = ∑ c, (g0 (ix2 n 0) * a (ix2 n c) + g1 (ix2 n 0) * b (ix2 n c)) *
      ∑ j, u c j * Ideal.div 1 (1 + Ideal.exp (0 - u c j)) * w2 (ix2 j f) := by
  obtain rfl : u = _ := funext fun c => funext fun j => hu c j
  pointwise [expert, dense, silu]

theorem total_at (p q : FVec Ideal S512x8 .f32) (e : Fin 8) : total p q (ix1 e) = counts p (ix2 0 e) + counts q (ix2 0 e) := by
  pointwise [total]

theorem out1_at (h : FVec Ideal S512x1024 .f32) (w : FVec Ideal S1024x1 .f32) (b : FVec Ideal S1 .f32) (i : Fin 8) (t : Fin 64) :
    out1 h w b (ix3 i t 0) = (∑ k, h (ix2 (row i t) k) * w (ix2 k 0)) + b (ix1 0) := by
  pointwise [out1, row]

theorem out8_at (h : FVec Ideal S512x1024 .f32) (w : FVec Ideal S1024x8 .f32) (b : FVec Ideal S8 .f32) (i : Fin 8) (t : Fin 64) (e : Fin 8) :
    out8 (F := Ideal) h w b (ix3 i t e) = (∑ k, h (ix2 (row i t) k) * w (ix2 k e)) + b (ix1 e) := by
  pointwise [out8, k0_pay179, row]

theorem out32_at (h : FVec Ideal S512x1024 .f32) (w : FVec Ideal S1024x32 .f32) (b : FVec Ideal S32 .f32) (i : Fin 8) (t : Fin 64) (e : Fin 32) :
    k0_pay1 (F := Ideal) h w b (ix3 i t e) = (∑ k, h (ix2 (row i t) k) * w (ix2 k e)) + b (ix1 e) := by
  pointwise [k0_pay1, row]

theorem out64_at (h : FVec Ideal S512x1024 .f32) (w : FVec Ideal S1024x64 .f32) (b : FVec Ideal S64 .f32) (i : Fin 8) (t : Fin 64) (e : Fin 64) :
    k0_pay2 (F := Ideal) h w b (ix3 i t e) = (∑ k, h (ix2 (row i t) k) * w (ix2 k e)) + b (ix1 e) := by
  pointwise [k0_pay2, row]

end Cert.KernelIdeal.Model

end
-- ==== Proof.Ctx.lean ====
/- The sixteen heads side by side, read at an index. -/
module

public import proofs.«01_k».proof.Proof.Loads
public import Idealize.ShloMosaic.Lib.Pipeline.Value

@[expose] public section

set_option maxRecDepth 16384

noncomputable section

namespace Cert.KernelIdeal.Model

open Cert.KernelIdeal.Gen
open Idealize.ShloMosaic

theorem slices_head (a : ℕ) (h : a + 64 ≤ 3072) : S512x3072.Slices ![0, a] S512x64 :=
  ⟨rfl, fun k => by
    fin_cases k
    · show 0 + 512 ≤ 512; omega
    · show a + 64 ≤ 3072; exact h⟩

/-- Column `64 * h + d` of the heads side by side is column `d` of head `h`. -/
theorem ctx_at (msk : IVec S512x512 1) (x : FVec Ideal S512x3072 .f32) (n : Fin 512) (h : Fin 16) (d : Fin 64) (j : Fin 1024) (hj : j.val = 64 * h.val + d.val) :
    ctx msk x (ix2 n j) = slotHead msk x (64 * h.val) (1024 + 64 * h.val) (2048 + 64 * h.val)
      (slices_head _ (by omega)) (slices_head _ (by omega)) (slices_head _ (by omega)) (ix2 n d) := by
  have e : ctx msk x = concatenate S512x1024 (1 : Fin 2) (List.ofFn fun h : Fin 16 => (⟨S512x64, slotHead msk x (64 * h.val) (1024 + 64 * h.val) (2048 + 64 * h.val)
      (slices_head _ (by omega)) (slices_head _ (by omega)) (slices_head _ (by omega))⟩ : (s : Shape) × (s.Idx → Ideal .f32)))
      concatenates_S512x64_S512x64_S512x64_S512x64_S512x64_S512x64_S512x64_S512x64_S512x64_S512x64_S512x64_S512x64_S512x64_S512x64_S512x64_S512x64_S512x1024_d1 := rfl
  rw [e]
  refine concatenate_ofFn_apply (t := S512x1024) (s₁ := S512x64) (1 : Fin 2) (fun h : Fin 16 => slotHead msk x (64 * h.val) (1024 + 64 * h.val) (2048 + 64 * h.val)
      (slices_head _ (by omega)) (slices_head _ (by omega)) (slices_head _ (by omega))) _
    rfl 64 rfl (ix2 n j) h ?_ (ix2 n d) ?_ ?_
  · show j.val / 64 = h.val; omega
  · show d.val = j.val % 64; omega
  · intro b hb
    fin_cases b
    · rfl
    · exact absurd rfl hb

end Cert.KernelIdeal.Model

end
-- ==== Proof.Attend.lean ====
/- The attention of the two programs, on rows that agree. -/
module

public import proofs.«01_k».proof.Proof.RAt
public import proofs.«01_k».proof.Proof.KAt
public import proofs.«01_k».proof.Proof.Ctx

@[expose] public section

set_option maxRecDepth 16384

noncomputable section

namespace Cert.Same

open Cert.Reals
open Idealize.ShloMosaic

/-- The same rows, by batch and position in one program and by row number in the other. -/
def Rows {d : ℕ} (h3 : (⟨3, ![8, 64, d]⟩ : Shape).Idx → EReal) (h2 : (⟨2, ![512, d]⟩ : Shape).Idx → EReal) : Prop :=
  ∀ b t k, h3 (ix3 b t k) = h2 (ix2 (row b t) k)

/-- Every entry is a real. -/
def AllReal {s : Shape} (h : s.Idx → EReal) : Prop := ∀ i, IsReal (h i)

theorem rms_rows (h3 : FVec Ideal Cert.ReferenceIdeal.S8x64x1024 .f32) (h2 : FVec Ideal Cert.KernelIdeal.S512x1024 .f32) (hh : Rows h3 h2)
    (w1 : FVec Ideal Cert.ReferenceIdeal.S1024 .f32) (w2 : FVec Ideal Cert.KernelIdeal.S1x1024 .f32) (hw : ∀ d, w1 (ix1 d) = w2 (ix2 0 d)) :
    Rows (Cert.ReferenceIdeal.Model.norm h3 w1) (Cert.KernelIdeal.Model.rms h2 w2) := by
  intro b t d
  rw [Cert.ReferenceIdeal.Model.norm_at, Cert.KernelIdeal.Model.rms_at, hh b t d, hw d]
  simp only [hh b t]

theorem rms_real (h2 : FVec Ideal Cert.KernelIdeal.S512x1024 .f32) (w2 : FVec Ideal Cert.KernelIdeal.S1x1024 .f32) (hw : ∀ d, IsReal (w2 (ix2 0 d))) :
    ∀ n d, IsReal (Cert.KernelIdeal.Model.rms h2 w2 (ix2 n d)) := by
  intro n d
  rw [Cert.KernelIdeal.Model.rms_at]
  exact isReal_rms (fun d => h2 (ix2 n d)) _ (hw d) d

theorem proj_rows (h3 : FVec Ideal Cert.ReferenceIdeal.S8x64x1024 .f32) (h2 : FVec Ideal Cert.KernelIdeal.S512x1024 .f32) (hh : Rows h3 h2)
    (w1 : FVec Ideal Cert.ReferenceIdeal.S1024x3072 .f32) (w2 : FVec Ideal Cert.KernelIdeal.S1024x3072 .f32) (hw : ∀ k d, w1 (ix2 k d) = w2 (ix2 k d)) :
    Rows (Cert.ReferenceIdeal.Model.proj h3 w1) (Cert.KernelIdeal.Model.proj h2 w2) := by
  intro b t d
  rw [Cert.ReferenceIdeal.Model.proj_at, Cert.KernelIdeal.Model.proj_at]
  simp only [hh b t, hw]

theorem proj_real (h2 : FVec Ideal Cert.KernelIdeal.S512x1024 .f32) (hh : ∀ n d, IsReal (h2 (ix2 n d)))
    (w2 : FVec Ideal Cert.KernelIdeal.S1024x3072 .f32) (hw : ∀ k d, IsReal (w2 (ix2 k d))) :
    ∀ n d, IsReal (Cert.KernelIdeal.Model.proj h2 w2 (ix2 n d)) := by
  intro n d
  rw [Cert.KernelIdeal.Model.proj_at]
  exact IsReal.sum _ _ fun k _ => (hh n k).mul (hw k d)

/-- The reference's causal bit. -/
theorem causal_bit (t s : Fin 64) : Scalar.select (IntOp.cmpi CmpIPredicate.sge (IntOp.addi (BitVec.ofNat 32 t.val) 0#32) (BitVec.ofNat 32 s.val)) (1#1) (0#1)
    = if s.val ≤ t.val then 1#1 else 0#1 := by
  unfold IntOp.addi IntOp.cmpi Scalar.select
  rw [BitVec.add_zero]
  refine if_congr ?_ rfl rfl
  simp only
  rw [BitVec.sle_eq_not_slt, Cert.KernelIdeal.Model.slt_ofNat (by omega) (by omega)]
  have e : ∀ c : Bool, BitVec.ofBool c = 1 ↔ c = true := by decide
  rw [e, Bool.not_eq_true', decide_eq_false_iff_not, not_lt]

theorem attn_rows (x3 : FVec Ideal Cert.ReferenceIdeal.S8x64x3072 .f32) (x2 : FVec Ideal Cert.KernelIdeal.S512x3072 .f32) (hx : Rows x3 x2) (hr : ∀ n d, IsReal (x2 (ix2 n d)))
    (h3 : FVec Ideal Cert.ReferenceIdeal.S8x64x1024 .f32) (h2 : FVec Ideal Cert.KernelIdeal.S512x1024 .f32) (hh : Rows h3 h2)
    (w1 : FVec Ideal Cert.ReferenceIdeal.S1024x1024 .f32) (w2 : FVec Ideal Cert.KernelIdeal.S1024x1024 .f32) (hw : ∀ k d, w1 (ix2 k d) = w2 (ix2 k d)) :
    Rows (Cert.ReferenceIdeal.Model.attn (Cert.ReferenceIdeal.Model.expRow (Cert.ReferenceIdeal.Model.scores x3)) x3 h3 w1)
      (Cert.KernelIdeal.Model.attn Cert.KernelIdeal.Model.mask x2 h2 w2) := by
  intro b t d
  rw [Cert.ReferenceIdeal.Model.attn_at, Cert.KernelIdeal.Model.attn_at, hh b t d]
  refine congrArg (· + _) (Finset.sum_congr rfl fun j _ => congrArg₂ (· * ·) ?_ (hw j d))
  obtain ⟨S, hS⟩ : ∃ S : Fin 512 → EReal, ∀ m, S m = Scalar.select (Cert.KernelIdeal.Model.mask (ix2 (row b t) m))
      ((∑ k : Fin 64, x2 (ix2 (row b t) ⟨j.val / 64 * 64 + k.val, by omega⟩) * x2 (ix2 m ⟨1024 + (j.val / 64 * 64 + k.val), by omega⟩)) * Ideal.ofBits .f32 1040187392#32) ⊥ :=
    ⟨_, fun _ => rfl⟩
  have hjd : j.val / 64 < 16 := by omega
  have hjm : j.val % 64 < 64 := by omega
  rw [Cert.KernelIdeal.Model.ctx_at _ x2 (row b t) ⟨j.val / 64, hjd⟩ ⟨j.val % 64, hjm⟩ j (by show j.val = 64 * (j.val / 64) + j.val % 64; omega)]
  rw [Cert.KernelIdeal.Model.slotHead_at _ x2 _ _ _ _ _ _ (row b t) ⟨j.val % 64, hjm⟩
    (fun k => ⟨j.val / 64 * 64 + k.val, by omega⟩) (fun k => ⟨1024 + (j.val / 64 * 64 + k.val), by omega⟩) (fun k => ⟨2048 + (j.val / 64 * 64 + k.val), by omega⟩)
    (fun k => by show j.val / 64 * 64 + k.val = 64 * (j.val / 64) + k.val; omega)
    (fun k => by show 1024 + (j.val / 64 * 64 + k.val) = 1024 + 64 * (j.val / 64) + k.val; omega)
    (fun k => by show 2048 + (j.val / 64 * 64 + k.val) = 2048 + 64 * (j.val / 64) + k.val; omega) S hS]
  have hdot : ∀ m, IsReal ((∑ k : Fin 64, x2 (ix2 (row b t) ⟨j.val / 64 * 64 + k.val, by omega⟩) * x2 (ix2 m ⟨1024 + (j.val / 64 * 64 + k.val), by omega⟩)) * Ideal.ofBits .f32 1040187392#32) :=
    fun m => (IsReal.sum _ _ fun k _ => (hr _ _).mul (hr _ _)).mul (by rw [ofBits_eighth]; exact IsReal.coe _)
  have hS1 : ∀ b' t', b' ≠ b → S (row b' t') = ⊥ := fun b' t' hb => by
    rw [hS, Cert.KernelIdeal.Model.mask_at, if_neg fun h => hb (Fin.ext (by have := h.1; simp only [row] at this; omega))]
    rfl
  have hS2 : ∀ s, S (row b s) = if s.val ≤ t.val then
      ((∑ k : Fin 64, x2 (ix2 (row b t) ⟨j.val / 64 * 64 + k.val, by omega⟩) * x2 (ix2 (row b s) ⟨1024 + (j.val / 64 * 64 + k.val), by omega⟩)) * Ideal.ofBits .f32 1040187392#32) else ⊥ := fun s => by
    rw [hS, Cert.KernelIdeal.Model.mask_at]
    by_cases h : s.val ≤ t.val
    · rw [if_pos h, if_pos ⟨by simp only [row]; omega, by simp only [row]; omega⟩]; rfl
    · rw [if_neg h, if_neg fun h' => h (by have := h'.2; simp only [row] at this; omega)]; rfl
  rw [attend_batch S (fun m => x2 (ix2 m ⟨2048 + (j.val / 64 * 64 + j.val % 64), by omega⟩)) b hS1
    (fun s => by
      rw [hS2]; split
      · exact (hdot _).ne_top
      · exact bot_ne_top) t (by rw [hS2, if_pos (le_refl _)]; exact (hdot _).ne_bot)]
  have hsc : ∀ s, Cert.ReferenceIdeal.Model.scores x3 (ix4 b ⟨j.val / 64, hjd⟩ t s) = S (row b s) := fun s => by
    rw [Cert.ReferenceIdeal.Model.scores_at, causal_bit, hS2, ofBits_bot]
    by_cases h : s.val ≤ t.val
    · rw [if_pos h, if_pos h, ofBits_8, ofBits_eighth, Ideal.div_coe (by norm_num)]
      simp only [hx b t, hx b s]
      rfl
    · rw [if_neg h, if_neg h]; rfl
  simp only [Cert.ReferenceIdeal.Model.expRow_at, hsc]
  refine Finset.sum_congr rfl fun s _ => congrArg₂ (· * ·) rfl ?_
  rw [hx b s]
  exact congrArg (fun c => x2 (ix2 (row b s) c)) (Fin.ext (by show 2048 + j.val = 2048 + (j.val / 64 * 64 + j.val % 64); omega))

end Cert.Same

end
-- ==== Proof.Sort.lean ====
/- The two greatest of a row, by a stable sort and by two maxima. -/
module

public import proofs.«01_k».proof.Proof.RAt
public import Idealize.ShloMosaic.Lib.SortFacts

@[expose] public section

set_option maxRecDepth 16384

noncomputable section

namespace Cert.Reals

open Idealize.ShloMosaic

/-- The order of a stable descending sort: greater first, the earlier of equals first. -/
def Ahead {n : ℕ} (p : Fin n → EReal) (a b : Fin n) : Prop := p b < p a ∨ (p b = p a ∧ a < b)

def greater {n : ℕ} (p : Fin n → EReal) (a b : Fin n) : Bool := decide (p b < p a)

theorem pairwise_insert {n : ℕ} (p : Fin n → EReal) (a : Fin n) (l : List (Fin n)) (ha : ∀ x ∈ l, a < x) (hl : l.Pairwise (Ahead p)) :
    (insertBefore (greater p) a l).Pairwise (Ahead p) := by
  induction l with
  | nil => exact List.pairwise_singleton _ _
  | cons b l ih =>
    rw [List.pairwise_cons] at hl
    unfold insertBefore
    split
    · rename_i h
      have hba : p a < p b := of_decide_eq_true h
      refine List.pairwise_cons.mpr ⟨fun x hx => ?_, ih (fun x hx => ha x (List.mem_cons_of_mem _ hx)) hl.2⟩
      rcases List.mem_cons.mp ((perm_insertBefore _ a l).mem_iff.mp hx) with rfl | hx
      · exact Or.inl hba
      · exact hl.1 x hx
    · rename_i h
      have hba : p b ≤ p a := not_lt.mp fun h' => h (decide_eq_true h')
      refine List.pairwise_cons.mpr ⟨fun x hx => ?_, List.pairwise_cons.mpr hl⟩
      have hax := ha x hx
      have hx' : p x ≤ p b := by
        rcases List.mem_cons.mp hx with rfl | hx
        · exact le_refl _
        · rcases hl.1 x hx with h1 | h1
          · exact h1.le
          · exact h1.1.le
      rcases (hx'.trans hba).lt_or_eq with h1 | h1
      · exact Or.inl h1
      · exact Or.inr ⟨h1, hax⟩

theorem pairwise_sort {n : ℕ} (p : Fin n → EReal) (l : List (Fin n)) (h : l.Pairwise (· < ·)) : (stableSort (greater p) l).Pairwise (Ahead p) := by
  induction l with
  | nil => exact List.Pairwise.nil
  | cons a l ih =>
    rw [List.pairwise_cons] at h
    exact pairwise_insert p a _ (fun x hx => h.1 x ((perm_stableSort _ l).mem_iff.mp hx)) (ih h.2)

theorem sorted_ahead {n : ℕ} (p : Fin n → EReal) (i j : Fin n) (hij : i < j) : Ahead p (sortedFrom (greater p) i) (sortedFrom (greater p) j) :=
  List.pairwise_iff_get.mp (pairwise_sort p (List.finRange n) (List.pairwise_lt_finRange n)) _ _ hij

/-- The first of a row's greatest. -/
def First {n : ℕ} (p : Fin n → EReal) (i : Fin n) : Prop := ∀ k, p k ≤ p i ∧ (p k = p i → i ≤ k)

/-- The first of the greatest of the rest. -/
def Second {n : ℕ} (p : Fin n → EReal) (i j : Fin n) : Prop := j ≠ i ∧ ∀ k, k ≠ i → p k ≤ p j ∧ (p k = p j → j ≤ k)

theorem first_sorted (p : Fin 8 → EReal) : First p (sortedFrom (greater p) 0) := by
  intro k
  obtain ⟨m, rfl⟩ := sortedFrom_surjective (greater p) k
  by_cases hm : m = 0
  · subst hm; exact ⟨le_refl _, fun _ => le_refl _⟩
  · rcases sorted_ahead p 0 m (Fin.pos_iff_ne_zero.mpr hm) with h | h
    · exact ⟨h.le, fun e => absurd e h.ne⟩
    · exact ⟨h.1.le, fun _ => h.2.le⟩

theorem second_sorted (p : Fin 8 → EReal) : Second p (sortedFrom (greater p) 0) (sortedFrom (greater p) 1) := by
  refine ⟨fun h => absurd (sortedFrom_injective _ h) (by decide), fun k hk => ?_⟩
  obtain ⟨m, rfl⟩ := sortedFrom_surjective (greater p) k
  by_cases hm : m = 1
  · subst hm; exact ⟨le_refl _, fun _ => le_refl _⟩
  · have hm0 : m ≠ 0 := fun h => hk (by rw [h])
    have : (1 : Fin 8) < m := by omega
    rcases sorted_ahead p 1 m this with h | h
    · exact ⟨h.le, fun e => absurd e h.ne⟩
    · exact ⟨h.1.le, fun _ => h.2.le⟩

theorem First.fold {p : Fin 8 → EReal} {i : Fin 8} (h : First p i) : Finset.fold max ⊥ p Finset.univ = p i := by
  change Finset.sup Finset.univ p = p i
  exact le_antisymm (Finset.sup_le fun k _ => (h k).1) (Finset.le_sup (f := p) (Finset.mem_univ i))

theorem minsi_toInt (a b : BitVec 32) : (IntOp.minsi a b).toInt = min a.toInt b.toInt := by
  unfold IntOp.minsi
  split
  · rename_i h
    exact (min_eq_left (BitVec.slt_iff_toInt_lt.mp h).le).symm
  · rename_i h
    exact (min_eq_right (not_lt.mp fun h' => h (BitVec.slt_iff_toInt_lt.mpr h'))).symm

/-- The least place at which a row has its maximum. -/
theorem First.least {p : Fin 8 → EReal} {i : Fin 8} (h : First p i) :
    Finset.fold IntOp.minsi 2147483647#32 (fun k : Fin 8 => if p k = Finset.fold max ⊥ p Finset.univ then BitVec.ofNat 32 k.val else 8#32) Finset.univ
      = BitVec.ofNat 32 i.val := by
  rw [h.fold]
  apply BitVec.eq_of_toInt_eq
  rw [← Finset.fold_hom (op' := min) (m := BitVec.toInt) (hm := minsi_toInt)]
  have hi : ∀ k : Fin 8, (BitVec.ofNat 32 k.val).toInt = k.val := by decide
  rw [hi]
  apply le_antisymm
  · rw [Finset.fold_min_le]
    refine Or.inr ⟨i, Finset.mem_univ _, ?_⟩
    rw [if_pos rfl, hi]
  · rw [Finset.le_fold_min]
    refine ⟨by have := i.isLt; rw [show (2147483647#32 : BitVec 32).toInt = 2147483647 from by decide]; omega, fun k _ => ?_⟩
    split
    · rename_i hk
      rw [hi]
      have := (h k).2 hk
      omega
    · rw [show (8#32 : BitVec 32).toInt = 8 from by decide]
      omega

/-- With the first greatest of a row of numbers none of which is negative set to `-1`, the first greatest is the second. -/
theorem Second.first {p : Fin 8 → EReal} (hp : ∀ k, 0 ≤ p k) {i j : Fin 8} (h : Second p i j) :
    First (fun k => if k = i then ((-1 : ℝ) : EReal) else p k) j := by
  have hn : ((-1 : ℝ) : EReal) < 0 := by exact_mod_cast (by norm_num : (-1 : ℝ) < 0)
  intro k
  simp only [if_neg h.1]
  by_cases hk : k = i
  · rw [if_pos hk]
    exact ⟨(hn.trans_le (hp j)).le, fun e => absurd e (hn.trans_le (hp j)).ne⟩
  · rw [if_neg hk]; exact h.2 k hk

end Cert.Reals

namespace Cert.ReferenceIdeal.Model

open Cert.ReferenceIdeal Cert.ReferenceIdeal.Gen Cert.Reals
open Idealize.ShloMosaic

/-- The sorted order of a row. -/
def order (p : FVec Ideal S512x8 .f32) (n : Fin 512) (k : Fin 2) : Fin 8 := sortedFrom (greater fun e => p (ix2 n e)) (k.castLE (by norm_num))

theorem along_row (n : Fin 512) (k e : Fin 8) : (ix2 n k : S512x8.Idx).along (1 : Fin 2) e = ix2 n e := by
  funext a
  fin_cases a <;> rfl

theorem gt_bit (x y : EReal) : (FloatOps.cmpfTotal (F := Ideal) (φ := .f32) .gt x y == 1#1) = decide (y < x) := by
  change (BitVec.ofBool (decide (y < x)) == 1#1) = decide (y < x)
  cases decide (y < x) <;> rfl

theorem slice_row {α : Type} (x : S512x8.Idx → α) (n : Fin 512) (k : Fin 2) :
    extractStridedSlice S512x2 (fun _ => 0) x sliceFits_S512x8_S512x2 (ix2 n k) = x (ix2 n (k.castLE (by norm_num))) := by
  refine congrArg x (funext fun a => Fin.ext ?_)
  fin_cases a
  · show 0 + n.val = n.val; omega
  · show 0 + k.val = k.val; omega

theorem topK_at (p : FVec Ideal S512x8 .f32) (n : Fin 512) (k : Fin 2) :
    (Host.topK S512x2 1 (FloatOps.cmpfTotal (F := Ideal) (φ := .f32) .gt) p sliceFits_S512x8_S512x2).1 (ix2 n k) = p (ix2 n (order p n k))
    ∧ (Host.topK S512x2 1 (FloatOps.cmpfTotal (F := Ideal) (φ := .f32) .gt) p sliceFits_S512x8_S512x2).2 (ix2 n k) = BitVec.ofNat 32 (order p n k).val := by
  have e : ∀ m : Fin 8, (fun a b : Fin 8 => FloatOps.cmpfTotal (F := Ideal) (φ := .f32) .gt (p ((ix2 n m : S512x8.Idx).along (1 : Fin 2) a)) (p ((ix2 n m : S512x8.Idx).along (1 : Fin 2) b)) == 1#1)
      = greater fun e => p (ix2 n e) := fun m => by
    funext a b
    rw [gt_bit, along_row, along_row]
    rfl
  unfold Host.topK Host.sort2
  simp only [show (1 : ℕ) < S512x8.rank from by decide, dif_pos]
  rw [slice_row, slice_row]
  constructor
  · refine (congrArg p (along_row n _ _)).trans (congrArg (fun o => p (ix2 n (sortedFrom o _))) (e _))
  · exact congrArg (fun o => BitVec.ofNat 32 (sortedFrom o ((k.castLE (by norm_num) : Fin 8))).val) (e _)

end Cert.ReferenceIdeal.Model

end
-- ==== Proof.Trunc.lean ====
/- Truncation of a place to a word. -/
module

public import proofs.«01_k».proof.Proof.Reals

@[expose] public section

set_option maxRecDepth 16384

noncomputable section

namespace Cert.Reals

open Idealize.ShloMosaic

/-- What a real truncates to. -/
theorem trunc_coe (r : ℝ) : Ideal.fptosi 32 (r : EReal) = BitVec.ofInt 32 (max (-2147483648) (min 2147483647 (if 0 ≤ r then ⌊r⌋ else ⌈r⌉))) := rfl

theorem trunc_top : Ideal.fptosi 32 ⊤ = BitVec.ofInt 32 2147483647 := rfl

/-- A place that truncates to a slot's number is below the capacity. -/
theorem lt_of_trunc {x : EReal} {c : Fin 160} (h : Ideal.fptosi 32 x = BitVec.ofNat 32 c.val) : x < ((160 : ℝ) : EReal) := by
  have hc : (BitVec.ofNat 32 c.val).toInt = c.val := by
    rw [BitVec.toInt_ofNat', Int.bmod_eq_of_le (by omega) (by omega)]
  induction x with
  | bot => exact EReal.bot_lt_coe _
  | top =>
    rw [trunc_top] at h
    have := congrArg BitVec.toInt h
    rw [hc, show (BitVec.ofInt 32 2147483647).toInt = 2147483647 from by decide] at this
    omega
  | coe r =>
    rw [trunc_coe] at h
    have := congrArg BitVec.toInt h
    rw [hc, BitVec.toInt_ofInt, Int.bmod_eq_of_le (by omega) (by omega)] at this
    by_contra hn
    have hr : (160 : ℝ) ≤ r := EReal.coe_le_coe_iff.mp (not_lt.mp hn)
    have h0 : (0 : ℝ) ≤ r := by linarith
    rw [if_pos h0] at this
    have : (160 : ℤ) ≤ ⌊r⌋ := Int.le_floor.mpr (by exact_mod_cast hr)
    omega

/-- A place below the capacity truncates to exactly one slot's number. -/
theorem sum_trunc {x : EReal} (h0 : 0 ≤ x) (h : x < ((160 : ℝ) : EReal)) :
    (∑ c : Fin 160, if Ideal.fptosi 32 x = BitVec.ofNat 32 c.val then (1 : EReal) else 0) = 1 := by
  induction x with
  | bot => exact absurd h0 (by simp)
  | top => exact absurd h (by simp)
  | coe r =>
    have hr0 : 0 ≤ r := EReal.coe_nonneg.mp h0
    have hr : r < 160 := EReal.coe_lt_coe_iff.mp h
    have f0 : 0 ≤ ⌊r⌋ := Int.floor_nonneg.mpr hr0
    have f1 : ⌊r⌋ < 160 := Int.floor_lt.mpr (by exact_mod_cast hr)
    obtain ⟨c, hc⟩ := Int.eq_ofNat_of_zero_le f0
    have hc1 : c < 160 := by omega
    have e : Ideal.fptosi 32 (r : EReal) = BitVec.ofNat 32 c := by
      rw [trunc_coe, if_pos hr0, hc]
      apply BitVec.eq_of_toInt_eq
      rw [BitVec.toInt_ofNat', BitVec.toInt_ofInt]
      congr 1
      omega
    rw [Finset.sum_eq_single (⟨c, hc1⟩ : Fin 160)]
    · rw [if_pos e]
    · intro d _ hd
      rw [if_neg]
      rw [e]
      intro h
      have := congrArg BitVec.toNat h
      rw [BitVec.toNat_ofNat, BitVec.toNat_ofNat] at this
      exact hd (Fin.ext (by show d.val = c; omega))
    · intro h; exact absurd (Finset.mem_univ _) h

end Cert.Reals

end
-- ==== Proof.Window.lean ====
/- The running sum of the reference's queue, as a sum. -/
module

public import proofs.«01_k».proof.Proof.RAt

@[expose] public section

set_option maxRecDepth 16384

noncomputable section

namespace Cert.ReferenceIdeal.Model

open Cert.ReferenceIdeal Cert.ReferenceIdeal.Gen Cert.Reals
open Idealize.ShloMosaic

theorem foldl_add {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- The window's places and the rows it reads, for the window ending at row `N`. -/
def windowEquiv (N : Fin 1024) : (⟨2, ![1024, 1]⟩ : Shape).Idx ≃ Fin 1024 where
  toFun i := ⟨(N.val + (i 0).val + 1) % 1024, Nat.mod_lt _ (by norm_num)⟩
  invFun r := ix2 ⟨(r.val + 2047 - N.val) % 1024, Nat.mod_lt _ (by norm_num)⟩ 0
  left_inv i := by
    have h0 : (i 0).val < 1024 := (i 0).isLt
    have h1 : (i 1).val < 1 := (i 1).isLt
    funext k
    fin_cases k
    · apply Fin.ext
      show ((N.val + (i 0).val + 1) % 1024 + 2047 - N.val) % 1024 = (i 0).val
      omega
    · apply Fin.ext
      show 0 = (i 1).val
      omega
  right_inv r := by
    apply Fin.ext
    show (N.val + (r.val + 2047 - N.val) % 1024 + 1) % 1024 = r.val
    omega

/-- A window sum is the sum over the window's places. -/
theorem windowAdd_at {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j = init (Shape.Idx.first hu) + ∑ i : (⟨s.rank, window⟩ : Shape).Idx,
      (if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else init (Shape.Idx.first hu)) := by
  rw [← Equiv.sum_comp ((⟨s.rank, window⟩ : Shape).rowMajor.symm)]
  unfold Host.reduceWindowAdd
  rw [Ideal.hostReduceWindowAdd_def]
  unfold Ideal.hostReduceWindowAdd Host.reduceWindow
  refine Eq.trans ?_ (foldl_add (fun n => if hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
    then x (fun a => ⟨(j (a.cast h.1.symm)).val * strides a + ((⟨s.rank, window⟩ : Shape).rowMajor.symm n a).val - lo a, (hin a).2⟩) else init (Shape.Idx.first hu))
    (init (Shape.Idx.first hu)))
  refine congrArg (fun f => List.foldl f (init (Shape.Idx.first hu)) (List.finRange (⟨s.rank, window⟩ : Shape).numel)) (funext fun r => funext fun n => ?_)
  refine congrArg (r + ·) ?_
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · exact (dif_pos hin).trans (by rw [dif_pos hin])
  · exact (dif_neg hin).trans (by rw [dif_neg hin])

theorem cum_at (q : FVec Ideal S1024x8 .f32) (N : Fin 1024) (e : Fin 8) :
    Host.reduceWindowAdd ![1024, 1] ![1, 1] ![1023, 0] ![0, 0] q
      (broadcastInDim S_ ![] bcast_S_S_ (constant S_ FTy.f32 0#32)) reduceWindows_S1024x8_S1024x8_w1024s1p1023_0_w1s1p0_0 h_S_ (ix2 N e)
    = ∑ r : Fin 1024, if r.val ≤ N.val then q (ix2 r e) else 0 := by
  have hv : (broadcastInDim S_ ![] bcast_S_S_ (constant (F := Ideal) S_ FTy.f32 0#32)) (Shape.Idx.first h_S_) = 0 := Ideal.ofBits_zero_f32
  rw [windowAdd_at, hv, zero_add]
  refine Fintype.sum_equiv (windowEquiv N) _ _ fun i => ?_
  have h0 : (i 0).val < 1024 := (i 0).isLt
  have h1 : (i 1).val < 1 := (i 1).isLt
  by_cases hN : 1023 ≤ N.val + (i 0).val
  · have hr : ((windowEquiv N) i).val = N.val + (i 0).val - 1023 := by
      show (N.val + (i 0).val + 1) % 1024 = _; omega
    rw [dif_pos, if_pos (by rw [hr]; omega)]
    · refine congrArg q (funext fun k => ?_)
      fin_cases k
      · apply Fin.ext
        show N.val * 1 + (i 0).val - 1023 = ((windowEquiv N) i).val
        rw [hr]; omega
      · apply Fin.ext
        show e.val * 1 + (i 1).val - 0 = e.val
        omega
    · intro k
      fin_cases k
      · show 1023 ≤ N.val * 1 + (i 0).val ∧ N.val * 1 + (i 0).val - 1023 < 1024
        omega
      · show 0 ≤ e.val * 1 + (i 1).val ∧ e.val * 1 + (i 1).val - 0 < 8
        omega
  · have hr : ((windowEquiv N) i).val = N.val + (i 0).val + 1 := by
      show (N.val + (i 0).val + 1) % 1024 = _; omega
    rw [dif_neg, if_neg (by rw [hr]; omega)]
    intro hin
    have : 1023 ≤ N.val * 1 + (i 0).val := (hin 0).1
    omega

end Cert.ReferenceIdeal.Model

end
-- ==== Proof.Route.lean ====
/- The router of the two programs, on one row of probabilities. -/
module

public import proofs.«01_k».proof.Proof.RAt
public import proofs.«01_k».proof.Proof.KAt
public import proofs.«01_k».proof.Proof.Sort
public import proofs.«01_k».proof.Proof.Trunc
public import proofs.«01_k».proof.Proof.Window

@[expose] public section

set_option maxRecDepth 16384

noncomputable section

namespace Cert.Same

open Cert.Reals
open Cert.ReferenceIdeal.Model (order)
open Idealize.ShloMosaic

variable (p : FVec Ideal Cert.KernelIdeal.S512x8 .f32)

/-- A row of zeros and a one. -/
def one (i e : Fin 8) : EReal := if i = e then 1 else 0

theorem one_cases (i e : Fin 8) : one i e = 0 ∨ one i e = 1 := by
  unfold one; split <;> simp

theorem first_order (n : Fin 512) : First (fun e => p (ix2 n e)) (order p n 0) := first_sorted _

theorem second_order (n : Fin 512) : Second (fun e => p (ix2 n e)) (order p n 0) (order p n 1) := second_sorted _

theorem pick0_order (n : Fin 512) : Cert.KernelIdeal.Model.pick0 p (ix2 n 0) = BitVec.ofNat 32 (order p n 0).val := by
  unfold Cert.KernelIdeal.Model.pick0
  rw [Cert.KernelIdeal.Model.argMax_at]
  exact (first_order p n).least

theorem gate0_order (n : Fin 512) : Cert.KernelIdeal.Model.gate0 p (ix2 n 0) = p (ix2 n (order p n 0)) := by
  unfold Cert.KernelIdeal.Model.gate0
  rw [Cert.KernelIdeal.Model.rowMax_at]
  exact (first_order p n).fold

theorem ofNat8 {a b : Fin 8} : BitVec.ofNat 32 a.val = BitVec.ofNat 32 b.val ↔ a = b :=
  (Cert.KernelIdeal.Model.ofNat_inj (by omega) (by omega)).trans Fin.ext_iff.symm

theorem dropped_row (n : Fin 512) : (fun e => Cert.KernelIdeal.Model.dropped p (Cert.KernelIdeal.Model.pick0 p) (ix2 n e))
    = fun e => if e = order p n 0 then ((-1 : ℝ) : EReal) else p (ix2 n e) := by
  funext e
  rw [Cert.KernelIdeal.Model.dropped_at, pick0_order]
  exact if_congr ofNat8 rfl rfl

theorem first_dropped (hp : ∀ n e, 0 ≤ p (ix2 n e)) (n : Fin 512) :
    First (fun e => Cert.KernelIdeal.Model.dropped p (Cert.KernelIdeal.Model.pick0 p) (ix2 n e)) (order p n 1) := by
  rw [dropped_row]
  exact (second_order p n).first (hp n)

theorem pick1_order (hp : ∀ n e, 0 ≤ p (ix2 n e)) (n : Fin 512) : Cert.KernelIdeal.Model.pick1 p (ix2 n 0) = BitVec.ofNat 32 (order p n 1).val := by
  unfold Cert.KernelIdeal.Model.pick1
  rw [Cert.KernelIdeal.Model.argMax_at]
  exact (first_dropped p hp n).least

theorem gate1_order (hp : ∀ n e, 0 ≤ p (ix2 n e)) (n : Fin 512) : Cert.KernelIdeal.Model.gate1 p (ix2 n 0) = p (ix2 n (order p n 1)) := by
  unfold Cert.KernelIdeal.Model.gate1
  rw [Cert.KernelIdeal.Model.rowMax_at]
  refine (first_dropped p hp n).fold.trans ?_
  rw [congrFun (dropped_row p n) (order p n 1)]
  exact if_neg (second_order p n).1

theorem hot0_order (n : Fin 512) (e : Fin 8) : Cert.KernelIdeal.Model.hot (F := Ideal) (Cert.KernelIdeal.Model.pick0 p) (ix2 n e) = one (order p n 0) e := by
  rw [Cert.KernelIdeal.Model.hot_at, pick0_order]
  exact if_congr (ofNat8.trans eq_comm) rfl rfl

theorem hot1_order (hp : ∀ n e, 0 ≤ p (ix2 n e)) (n : Fin 512) (e : Fin 8) :
    Cert.KernelIdeal.Model.hot (F := Ideal) (Cert.KernelIdeal.Model.pick1 p) (ix2 n e) = one (order p n 1) e := by
  rw [Cert.KernelIdeal.Model.hot_at, pick1_order p hp]
  exact if_congr (ofNat8.trans eq_comm) rfl rfl

theorem uitofp_bit (b : Bool) : FloatOps.uitofp (F := Ideal) .f32 (BitVec.ofBool b) = if b = true then 1 else 0 := by
  cases b
  · change (((BitVec.ofBool false).toNat : ℝ) : EReal) = _
    norm_num
  · change (((1 : ℕ) : ℝ) : EReal) = _
    norm_num

theorem hots_order (n : Fin 512) (k : Fin 2) (e : Fin 8) : Cert.ReferenceIdeal.Model.hots p (ix3 n k e) = one (order p n k) e := by
  rw [Cert.ReferenceIdeal.Model.hots_at, (Cert.ReferenceIdeal.Model.topK_at p n k).2]
  refine (uitofp_bit _).trans (if_congr (beq_iff_eq.trans ofNat8) rfl rfl)

theorem gates_order (n : Fin 512) (k : Fin 2) : Cert.ReferenceIdeal.Model.gates p (ix2 n k) = p (ix2 n (order p n k)) :=
  (Cert.ReferenceIdeal.Model.topK_at p n k).1

/-- How many earlier tokens have an expert first, and how many have it at all before a second choice. -/
def place (k : Fin 2) (n : Fin 512) : EReal :=
  if k = 0 then Cert.KernelIdeal.Model.at0 p (ix2 n 0) else Cert.KernelIdeal.Model.at1 p (ix2 n 0)

theorem at0_order (n : Fin 512) : Cert.KernelIdeal.Model.at0 p (ix2 n 0)
    = ∑ e, (∑ m : Fin 512, if m.val < n.val then one (order p m 0) e else 0) * one (order p n 0) e := by
  unfold Cert.KernelIdeal.Model.at0
  rw [Cert.KernelIdeal.Model.place0_at]
  simp only [hot0_order, Cert.KernelIdeal.Model.lower_at, ite_mul, one_mul, zero_mul]

theorem at1_order (hp : ∀ n e, 0 ≤ p (ix2 n e)) (n : Fin 512) : Cert.KernelIdeal.Model.at1 p (ix2 n 0)
    = ∑ e, ((∑ m : Fin 512, if m.val < n.val then one (order p m 1) e else 0) + ∑ m, one (order p m 0) e) * one (order p n 1) e := by
  unfold Cert.KernelIdeal.Model.at1
  rw [Cert.KernelIdeal.Model.place1_at]
  simp only [hot0_order, hot1_order p hp, Cert.KernelIdeal.Model.lower_at, ite_mul, one_mul, zero_mul]

theorem real_one (i e : Fin 8) : IsReal (one i e) := by
  rcases one_cases i e with h | h <;> rw [h]
  · exact IsReal.zero
  · exact ⟨1, rfl⟩

theorem add_sub_real {a x : EReal} (h : IsReal x) : a + x - x = a := by
  obtain ⟨r, rfl⟩ := h
  exact EReal.add_sub_cancel_right

theorem queue_order (k : Fin 2) (n : Fin 512) (e : Fin 8) (N : Fin 1024) (hN : N.val = k.val * 512 + n.val) :
    Cert.ReferenceIdeal.Model.queue (Cert.ReferenceIdeal.Model.hots p) (ix2 N e) = one (order p n k) e := by
  rw [Cert.ReferenceIdeal.Model.queue_at, ← hots_order]
  congr 2 <;> exact Fin.ext (by simp only; omega)

/-- The queue before a row. -/
theorem before_order (N : Fin 1024) (e : Fin 8) (x : Fin 1024 → EReal) (hx : ∀ r, IsReal (x r)) :
    (∑ r : Fin 1024, if r.val ≤ N.val then x r else 0) - x N = ∑ r : Fin 1024, if r.val < N.val then x r else 0 := by
  have e1 : (∑ r : Fin 1024, if r.val ≤ N.val then x r else 0) = (∑ r : Fin 1024, if r.val < N.val then x r else 0) + x N := by
    have e2 : x N = ∑ r : Fin 1024, if r = N then x r else 0 := by rw [Finset.sum_ite_eq' Finset.univ N x, if_pos (Finset.mem_univ _)]
    conv_rhs => rw [e2]
    rw [← Finset.sum_add_distrib]
    refine Finset.sum_congr rfl fun r _ => ?_
    rcases lt_trichotomy r.val N.val with h | h | h
    · rw [if_pos h.le, if_pos h, if_neg fun e => h.ne (congrArg Fin.val e), add_zero]
    · rw [if_pos h.le, if_neg h.not_lt, if_pos (Fin.ext h), zero_add]
    · rw [if_neg (not_le.mpr h), if_neg h.not_gt, if_neg fun e => h.ne' (congrArg Fin.val e), add_zero]
  rw [e1, add_sub_real (hx N)]

theorem places_order (hp : ∀ n e, 0 ≤ p (ix2 n e)) (k : Fin 2) (n : Fin 512) (N : Fin 1024) (hN : N.val = k.val * 512 + n.val) :
    Cert.ReferenceIdeal.Model.places (Cert.ReferenceIdeal.Model.queue (Cert.ReferenceIdeal.Model.hots p)) (ix1 N) = place p k n := by
  have hreal : ∀ e r, IsReal (Cert.ReferenceIdeal.Model.queue (Cert.ReferenceIdeal.Model.hots p) (ix2 r e)) := fun e r => by
    rw [queue_order p ⟨r.val / 512, by omega⟩ ⟨r.val % 512, by omega⟩ e r (by simp only; omega)]
    exact real_one _ _
  rw [Cert.ReferenceIdeal.Model.places_at]
  have hs : ∀ e, (∑ r : Fin 1024, if r.val < N.val then Cert.ReferenceIdeal.Model.queue (Cert.ReferenceIdeal.Model.hots p) (ix2 r e) else 0)
      = (∑ m : Fin 512, if m.val < N.val then one (order p m 0) e else 0) + ∑ m : Fin 512, if 512 + m.val < N.val then one (order p m 1) e else 0 := fun e => by
    refine (Fin.sum_univ_add (a := 512) (b := 512) _).trans (congrArg₂ (· + ·) (Finset.sum_congr rfl fun m _ => ?_) (Finset.sum_congr rfl fun m _ => ?_))
    · rw [queue_order p 0 m e _ (by simp)]; rfl
    · rw [queue_order p 1 m e _ (by show 512 + m.val = 1 * 512 + m.val; omega)]; rfl
  refine (Finset.sum_congr rfl fun e _ => congrArg₂ (· * ·) ((congrArg (· - _) (Cert.ReferenceIdeal.Model.cum_at _ N e)).trans
    ((before_order N e (fun r => Cert.ReferenceIdeal.Model.queue (Cert.ReferenceIdeal.Model.hots p) (ix2 r e)) (hreal e)).trans (hs e))) (queue_order p k n e N hN)).trans ?_
  unfold place
  rcases (show k = 0 ∨ k = 1 by omega) with rfl | rfl
  · rw [if_pos rfl, at0_order]
    have hN' : N.val = n.val := by simpa using hN
    refine Finset.sum_congr rfl fun e _ => congrArg (· * _) ?_
    rw [hN', Finset.sum_eq_zero (s := Finset.univ) (f := fun m : Fin 512 => if 512 + m.val < n.val then one (order p m 1) e else 0) fun m _ => if_neg (by omega), add_zero]
  · rw [if_neg (by decide), at1_order p hp]
    have hN' : N.val = 512 + n.val := by have : (1 : Fin 2).val = 1 := rfl; omega
    refine Finset.sum_congr rfl fun e _ => congrArg (· * _) ?_
    rw [add_comm]
    refine congrArg₂ (· + ·) (Finset.sum_congr rfl fun m _ => if_congr (by omega) rfl rfl) (Finset.sum_congr rfl fun m _ => if_pos (by omega))

theorem place_nonneg (hp : ∀ n e, 0 ≤ p (ix2 n e)) (k : Fin 2) (n : Fin 512) : 0 ≤ place p k n := by
  have h1 : ∀ i e, 0 ≤ one i e := fun i e => by rcases one_cases i e with h | h <;> rw [h]; exact zero_le_one
  have h2 : ∀ (k : Fin 2) (e : Fin 8), 0 ≤ ∑ m : Fin 512, if m.val < n.val then one (order p m k) e else 0 := fun k e =>
    Finset.sum_nonneg fun m _ => by split <;> first | exact h1 _ _ | exact le_refl _
  unfold place
  split
  · rw [at0_order]
    exact Finset.sum_nonneg fun e _ => mul_nonneg (h2 _ _) (h1 _ _)
  · rw [at1_order p hp]
    exact Finset.sum_nonneg fun e _ => mul_nonneg (add_nonneg (h2 _ _) (Finset.sum_nonneg fun m _ => h1 _ _)) (h1 _ _)

/-- Whether a choice is within its expert's capacity. -/
def keep (k : Fin 2) (n : Fin 512) : EReal := if place p k n < ((160 : ℝ) : EReal) then 1 else 0

/-- Whether a choice has a slot. -/
def slot (k : Fin 2) (n : Fin 512) (c : Fin 160) : EReal := if Ideal.fptosi 32 (place p k n) = BitVec.ofNat 32 c.val then 1 else 0

theorem kept_order (hp : ∀ n e, 0 ≤ p (ix2 n e)) (k : Fin 2) (n : Fin 512) :
    Cert.ReferenceIdeal.Model.kept (Cert.ReferenceIdeal.Model.places (Cert.ReferenceIdeal.Model.queue (Cert.ReferenceIdeal.Model.hots p))) (ix2 n k) = keep p k n := by
  rw [Cert.ReferenceIdeal.Model.kept_at, places_order p hp k n _ rfl, ofBits_160]
  exact (uitofp_bit _).trans (if_congr decide_eq_true_iff rfl rfl)

theorem slots_order (hp : ∀ n e, 0 ≤ p (ix2 n e)) (k : Fin 2) (n : Fin 512) (c : Fin 160) :
    Cert.ReferenceIdeal.Model.slots (Cert.ReferenceIdeal.Model.places (Cert.ReferenceIdeal.Model.queue (Cert.ReferenceIdeal.Model.hots p))) (ix3 n k c) = slot p k n c := by
  rw [Cert.ReferenceIdeal.Model.slots_at, places_order p hp k n _ rfl]
  exact (uitofp_bit _).trans (if_congr beq_iff_eq rfl rfl)

theorem kept0_order (n : Fin 512) : Cert.KernelIdeal.Model.kept (Cert.KernelIdeal.Model.at0 p) (ix2 n 0) = keep p 0 n :=
  Cert.KernelIdeal.Model.kept_at _ _

theorem kept1_order (n : Fin 512) : Cert.KernelIdeal.Model.kept (Cert.KernelIdeal.Model.at1 p) (ix2 n 0) = keep p 1 n :=
  Cert.KernelIdeal.Model.kept_at _ _

theorem keep_cases (k : Fin 2) (n : Fin 512) : keep p k n = 0 ∨ keep p k n = 1 := by
  unfold keep; split <;> simp

theorem slot_cases (k : Fin 2) (n : Fin 512) (c : Fin 160) : slot p k n c = 0 ∨ slot p k n c = 1 := by
  unfold slot; split <;> simp

theorem keep_slot (k : Fin 2) (n : Fin 512) (c : Fin 160) : keep p k n * slot p k n c = slot p k n c := by
  unfold slot
  split
  · rename_i h
    unfold keep
    rw [if_pos (lt_of_trunc h), one_mul]
  · rw [mul_zero]

theorem sum_slot (hp : ∀ n e, 0 ≤ p (ix2 n e)) (k : Fin 2) (n : Fin 512) : ∑ c, slot p k n c = keep p k n := by
  by_cases h : place p k n < ((160 : ℝ) : EReal)
  · unfold slot keep
    rw [sum_trunc (place_nonneg p hp k n) h, if_pos h]
  · unfold keep
    rw [if_neg h]
    refine Finset.sum_eq_zero fun c _ => ?_
    unfold slot
    exact if_neg fun h' => h (lt_of_trunc h')

theorem dispatch0_order (n : Fin 512) (e : Fin 8) (c : Fin 160) :
    Cert.KernelIdeal.Model.dispatch (F := Ideal) (BitVec.ofNat 32 e.val) (Cert.KernelIdeal.Model.pick0 p) (fptosi 32 (Cert.KernelIdeal.Model.at0 p)) (ix2 n c)
      = one (order p n 0) e * slot p 0 n c := by
  rw [Cert.KernelIdeal.Model.dispatch_at, pick0_order]
  refine (if_congr (and_congr ofNat8 Iff.rfl) rfl rfl).trans ?_
  change (if order p n 0 = e ∧ Ideal.fptosi 32 (place p 0 n) = BitVec.ofNat 32 c.val then (1 : EReal) else 0) = _
  unfold one slot
  rw [ite_and]
  split <;> simp

theorem dispatch1_order (hp : ∀ n e, 0 ≤ p (ix2 n e)) (n : Fin 512) (e : Fin 8) (c : Fin 160) :
    Cert.KernelIdeal.Model.dispatch (F := Ideal) (BitVec.ofNat 32 e.val) (Cert.KernelIdeal.Model.pick1 p) (fptosi 32 (Cert.KernelIdeal.Model.at1 p)) (ix2 n c)
      = one (order p n 1) e * slot p 1 n c := by
  rw [Cert.KernelIdeal.Model.dispatch_at, pick1_order p hp]
  refine (if_congr (and_congr ofNat8 Iff.rfl) rfl rfl).trans ?_
  change (if order p n 1 = e ∧ Ideal.fptosi 32 (place p 1 n) = BitVec.ofNat 32 c.val then (1 : EReal) else 0) = _
  unfold one slot
  rw [ite_and]
  split <;> simp

/-- What the reference sends to a slot of an expert. -/
theorem disp_order (hp : ∀ n e, 0 ≤ p (ix2 n e)) (n : Fin 512) (e : Fin 8) (c : Fin 160) :
    Cert.ReferenceIdeal.Model.disp (Cert.ReferenceIdeal.Model.hots p)
      (Cert.ReferenceIdeal.Model.kept (Cert.ReferenceIdeal.Model.places (Cert.ReferenceIdeal.Model.queue (Cert.ReferenceIdeal.Model.hots p))))
      (Cert.ReferenceIdeal.Model.slots (Cert.ReferenceIdeal.Model.places (Cert.ReferenceIdeal.Model.queue (Cert.ReferenceIdeal.Model.hots p)))) (ix3 n e c)
      = one (order p n 0) e * slot p 0 n c + one (order p n 1) e * slot p 1 n c := by
  rw [Cert.ReferenceIdeal.Model.disp_at, Fin.sum_univ_two]
  simp only [hots_order, kept_order p hp, slots_order p hp, mul_assoc, keep_slot]

end Cert.Same

end
-- ==== Proof.Experts.lean ====
/- The experts of the two programs, on rows and probabilities that agree. -/
module

public import proofs.«01_k».proof.Proof.Attend
public import proofs.«01_k».proof.Proof.Route

@[expose] public section

set_option maxRecDepth 16384

noncomputable section

namespace Cert.Same

open Cert.Reals
open Cert.ReferenceIdeal.Model (order)
open Idealize.ShloMosaic

/-- A layer's result in the reference, from its rows after the second norm and the router's probabilities. -/
def refNext (h3 : FVec Ideal Cert.ReferenceIdeal.S8x64x1024 .f32) (p : FVec Ideal Cert.ReferenceIdeal.S512x8 .f32)
    (w1 w2 : FVec Ideal Cert.ReferenceIdeal.S8x1024x1024 .f32) : FVec Ideal Cert.ReferenceIdeal.S8x64x1024 .f32 :=
  let hs := Cert.ReferenceIdeal.Model.flat h3
  let a := Cert.ReferenceIdeal.Model.hots p
  let l := Cert.ReferenceIdeal.Model.places (Cert.ReferenceIdeal.Model.queue a)
  let k := Cert.ReferenceIdeal.Model.kept l
  let s := Cert.ReferenceIdeal.Model.slots l
  Cert.ReferenceIdeal.Model.next hs (Cert.ReferenceIdeal.Model.gates p) k a s (Cert.ReferenceIdeal.Model.dense1 (Cert.ReferenceIdeal.Model.disp a k s) hs w1) h3 w2

theorem flat_rows (h3 : FVec Ideal Cert.ReferenceIdeal.S8x64x1024 .f32) (h2 : FVec Ideal Cert.KernelIdeal.S512x1024 .f32) (hh : Rows h3 h2) :
    ∀ n d, Cert.ReferenceIdeal.Model.flat h3 (ix2 n d) = h2 (ix2 n d) := by
  intro n d
  obtain ⟨b, t, rfl⟩ := exists_row n
  rw [Cert.ReferenceIdeal.Model.flat_at, hh]

theorem experts_at (hs : FVec Ideal Cert.KernelIdeal.S512x1024 .f32) (i0 p0 i1 p1 : IVec Cert.KernelIdeal.S512x1 32) (g0 g1 : FVec Ideal Cert.KernelIdeal.S512x1 .f32)
    (w1 w2 : Fin 8 → FVec Ideal Cert.KernelIdeal.S1024x1024 .f32) (j) :
    Cert.KernelIdeal.Model.experts hs i0 p0 i1 p1 g0 g1 w1 w2 j
      = ∑ e : Fin 8, Cert.KernelIdeal.Model.expert hs (Cert.KernelIdeal.Model.dispatch (BitVec.ofNat 32 e.val) i0 p0)
          (Cert.KernelIdeal.Model.dispatch (BitVec.ofNat 32 e.val) i1 p1) g0 g1 (w1 e) (w2 e) j := by
  rw [Fin.sum_univ_eight]
  rfl

theorem two_mul_real {x : EReal} (h : IsReal x) : ((2 : ℝ) : EReal) * x = x + x := by
  obtain ⟨r, rfl⟩ := h
  rw [← EReal.coe_mul, ← EReal.coe_add, two_mul]

theorem next_rows (h3 : FVec Ideal Cert.ReferenceIdeal.S8x64x1024 .f32) (h2 : FVec Ideal Cert.KernelIdeal.S512x1024 .f32) (hh : Rows h3 h2) (hr : ∀ n d, IsReal (h2 (ix2 n d)))
    (p : FVec Ideal Cert.KernelIdeal.S512x8 .f32) (hp : ∀ n e, 0 ≤ p (ix2 n e))
    (w1 w2 : FVec Ideal Cert.ReferenceIdeal.S8x1024x1024 .f32) (u1 u2 : Fin 8 → FVec Ideal Cert.KernelIdeal.S1024x1024 .f32)
    (hw1 : ∀ e i j, w1 (ix3 e i j) = u1 e (ix2 i j)) (hw2 : ∀ e i j, w2 (ix3 e i j) = u2 e (ix2 i j)) :
    Rows (refNext h3 p w1 w2) (addf (mulf (broadcast Cert.KernelIdeal.S512x1024 (Scalar.ofBits .f32 0x40000000#32)) h2) (Cert.KernelIdeal.Model.moe h2 p u1 u2)) := by
  intro b t f
  have hflat := flat_rows h3 h2 hh
  have hk : (addf (mulf (broadcast Cert.KernelIdeal.S512x1024 (Scalar.ofBits .f32 0x40000000#32)) h2) (Cert.KernelIdeal.Model.moe h2 p u1 u2)) (ix2 (row b t) f)
      = ((2 : ℝ) : EReal) * h2 (ix2 (row b t) f) + Cert.KernelIdeal.Model.moe h2 p u1 u2 (ix2 (row b t) f) :=
    congrArg (fun c : EReal => c * h2 (ix2 (row b t) f) + Cert.KernelIdeal.Model.moe h2 p u1 u2 (ix2 (row b t) f)) ofBits_2
  rw [hk, two_mul_real (hr _ _)]
  unfold refNext
  rw [Cert.ReferenceIdeal.Model.next_at, hflat, hh b t f, add_right_comm]
  refine congrArg (h2 (ix2 (row b t) f) + h2 (ix2 (row b t) f) + ·) ?_
  unfold Cert.KernelIdeal.Model.moe
  rw [experts_at, Finset.sum_comm]
  refine Finset.sum_congr rfl fun e _ => ?_
  rw [Cert.KernelIdeal.Model.expert_at _ _ _ _ _ _ _ _ _ _ (fun c j => rfl)]
  refine Finset.sum_congr rfl fun c _ => congrArg₂ (· * ·) ?_ (Finset.sum_congr rfl fun j _ => ?_)
  · rw [Fin.sum_univ_two, Fin.sum_univ_two, dispatch0_order, dispatch1_order p hp]
    simp only [gates_order, hots_order, kept_order p hp, slots_order p hp]
    change _ = Cert.KernelIdeal.Model.kept (Cert.KernelIdeal.Model.at0 p) (ix2 (row b t) 0) * Cert.KernelIdeal.Model.share (Cert.KernelIdeal.Model.gate0 p) (Cert.KernelIdeal.Model.gate0 p) (Cert.KernelIdeal.Model.gate1 p) (ix2 (row b t) 0) * _
      + Cert.KernelIdeal.Model.kept (Cert.KernelIdeal.Model.at1 p) (ix2 (row b t) 0) * Cert.KernelIdeal.Model.share (Cert.KernelIdeal.Model.gate1 p) (Cert.KernelIdeal.Model.gate0 p) (Cert.KernelIdeal.Model.gate1 p) (ix2 (row b t) 0) * _
    rw [kept0_order, kept1_order, Cert.KernelIdeal.Model.share_at, Cert.KernelIdeal.Model.share_at, gate0_order, gate1_order p hp]
    refine congrArg₂ (· + ·) ?_ ?_ <;> rw [mul_assoc (_ * _), mul_comm (Ideal.div _ _)]
  · have hu : ∀ c j, Cert.ReferenceIdeal.Model.dense1 (Cert.ReferenceIdeal.Model.disp (Cert.ReferenceIdeal.Model.hots p)
        (Cert.ReferenceIdeal.Model.kept (Cert.ReferenceIdeal.Model.places (Cert.ReferenceIdeal.Model.queue (Cert.ReferenceIdeal.Model.hots p))))
        (Cert.ReferenceIdeal.Model.slots (Cert.ReferenceIdeal.Model.places (Cert.ReferenceIdeal.Model.queue (Cert.ReferenceIdeal.Model.hots p)))))
        (Cert.ReferenceIdeal.Model.flat h3) w1 (ix3 e c j)
        = ∑ i, (∑ m, (Cert.KernelIdeal.Model.dispatch (F := Ideal) (BitVec.ofNat 32 e.val) (Cert.KernelIdeal.Model.pick0 p) (fptosi 32 (Cert.KernelIdeal.Model.at0 p)) (ix2 m c)
          + Cert.KernelIdeal.Model.dispatch (F := Ideal) (BitVec.ofNat 32 e.val) (Cert.KernelIdeal.Model.pick1 p) (fptosi 32 (Cert.KernelIdeal.Model.at1 p)) (ix2 m c)) * h2 (ix2 m i)) * u1 e (ix2 i j) := fun c j => by
      rw [Cert.ReferenceIdeal.Model.dense1_at]
      simp only [disp_order p hp, hflat, hw1, dispatch0_order, dispatch1_order p hp]
    rw [hu, hw2, zero_sub]

/-- How many tokens each expert takes. -/
theorem counts_at (p : FVec Ideal Cert.KernelIdeal.S512x8 .f32) (hp : ∀ n e, 0 ≤ p (ix2 n e)) (e : Fin 8) :
    Cert.KernelIdeal.Model.counts p (ix2 0 e) = ∑ n : Fin 512, ∑ c : Fin 160, Cert.ReferenceIdeal.Model.disp (Cert.ReferenceIdeal.Model.hots p)
      (Cert.ReferenceIdeal.Model.kept (Cert.ReferenceIdeal.Model.places (Cert.ReferenceIdeal.Model.queue (Cert.ReferenceIdeal.Model.hots p))))
      (Cert.ReferenceIdeal.Model.slots (Cert.ReferenceIdeal.Model.places (Cert.ReferenceIdeal.Model.queue (Cert.ReferenceIdeal.Model.hots p)))) (ix3 n e c) := by
  unfold Cert.KernelIdeal.Model.counts
  rw [Cert.KernelIdeal.Model.count_at]
  refine Finset.sum_congr rfl fun n _ => ?_
  have hm : ∀ (x : EReal) (hx : x = 0 ∨ x = 1) (g : Fin 160 → EReal), ∑ c, x * g c = x * ∑ c, g c := fun x hx g => by
    rcases hx with rfl | rfl
    · simp only [zero_mul, Finset.sum_const_zero]
    · simp only [one_mul]
  simp only [disp_order p hp]
  rw [Finset.sum_add_distrib, hm _ (one_cases _ _), hm _ (one_cases _ _), sum_slot p hp, sum_slot p hp, kept0_order, kept1_order, hot0_order, hot1_order p hp,
    mul_comm (keep p 0 n), mul_comm (keep p 1 n)]

end Cert.Same

end
-- ==== Proof.Layers.lean ====
/- The embedding, a layer and the heads of the two programs, on arguments that agree. -/
module

public import proofs.«01_k».proof.Proof.Experts

@[expose] public section

set_option maxRecDepth 16384

noncomputable section

set_option maxHeartbeats 1000000

namespace Cert.Same

open Cert.Reals
open Idealize.ShloMosaic

/-! ## The weights of a layer -/

section Weights
open Cert.ReferenceIdeal Cert.ReferenceIdeal.Gen

theorem ln_0 (x : FVec Ideal S2x1024 .f32) (d : Fin 1024) :
    (shapeCast S1024 (extractStridedSlice S1x1024 ![0, 0] x slices_S2x1024_S1x1024_0_0) shapeCasts_S1x1024_S1024) (ix1 d) = x (ix2 0 d) := by
  pointwise []

theorem ln_1 (x : FVec Ideal S2x1024 .f32) (d : Fin 1024) :
    (shapeCast S1024 (extractStridedSlice S1x1024 ![1, 0] x slices_S2x1024_S1x1024_1_0) shapeCasts_S1x1024_S1024) (ix1 d) = x (ix2 1 d) := by
  pointwise []

theorem wqkv_0 (x : FVec Ideal S2x1024x3072 .f32) (k : Fin 1024) (d : Fin 3072) :
    (shapeCast S1024x3072 (extractStridedSlice S1x1024x3072 ![0, 0, 0] x slices_S2x1024x3072_S1x1024x3072_0_0_0) shapeCasts_S1x1024x3072_S1024x3072) (ix2 k d) = x (ix3 0 k d) := by
  pointwise []

theorem wqkv_1 (x : FVec Ideal S2x1024x3072 .f32) (k : Fin 1024) (d : Fin 3072) :
    (shapeCast S1024x3072 (extractStridedSlice S1x1024x3072 ![1, 0, 0] x slices_S2x1024x3072_S1x1024x3072_1_0_0) shapeCasts_S1x1024x3072_S1024x3072) (ix2 k d) = x (ix3 1 k d) := by
  pointwise []

theorem wo_0 (x : FVec Ideal S2x1024x1024 .f32) (k d : Fin 1024) :
    (shapeCast S1024x1024 (extractStridedSlice S1x1024x1024 ![0, 0, 0] x slices_S2x1024x1024_S1x1024x1024_0_0_0) shapeCasts_S1x1024x1024_S1024x1024) (ix2 k d) = x (ix3 0 k d) := by
  pointwise []

theorem wo_1 (x : FVec Ideal S2x1024x1024 .f32) (k d : Fin 1024) :
    (shapeCast S1024x1024 (extractStridedSlice S1x1024x1024 ![1, 0, 0] x slices_S2x1024x1024_S1x1024x1024_1_0_0) shapeCasts_S1x1024x1024_S1024x1024) (ix2 k d) = x (ix3 1 k d) := by
  pointwise []

theorem wr_0 (x : FVec Ideal S2x1024x8 .f32) (k : Fin 1024) (d : Fin 8) :
    (shapeCast S1024x8 (extractStridedSlice S1x1024x8 ![0, 0, 0] x slices_S2x1024x8_S1x1024x8_0_0_0) shapeCasts_S1x1024x8_S1024x8) (ix2 k d) = x (ix3 0 k d) := by
  pointwise []

theorem wr_1 (x : FVec Ideal S2x1024x8 .f32) (k : Fin 1024) (d : Fin 8) :
    (shapeCast S1024x8 (extractStridedSlice S1x1024x8 ![1, 0, 0] x slices_S2x1024x8_S1x1024x8_1_0_0) shapeCasts_S1x1024x8_S1024x8) (ix2 k d) = x (ix3 1 k d) := by
  pointwise []

theorem wx_0 (x : FVec Ideal S2x8x1024x1024 .f32) (e : Fin 8) (k d : Fin 1024) :
    (shapeCast S8x1024x1024 (extractStridedSlice S1x8x1024x1024 ![0, 0, 0, 0] x slices_S2x8x1024x1024_S1x8x1024x1024_0_0_0_0) shapeCasts_S1x8x1024x1024_S8x1024x1024) (ix3 e k d) = x (ix4 0 e k d) := by
  pointwise []

theorem wx_1 (x : FVec Ideal S2x8x1024x1024 .f32) (e : Fin 8) (k d : Fin 1024) :
    (shapeCast S8x1024x1024 (extractStridedSlice S1x8x1024x1024 ![1, 0, 0, 0] x slices_S2x8x1024x1024_S1x8x1024x1024_1_0_0_0) shapeCasts_S1x8x1024x1024_S8x1024x1024) (ix3 e k d) = x (ix4 1 e k d) := by
  pointwise []

end Weights

/-! ## The embedding -/

theorem patch_at (x : FVec Ideal Cert.KernelIdeal.S8x2048x1 .f32) (b : Fin 8) (t : Fin 64) (d : Fin 32) :
    shapeCast Cert.KernelIdeal.S512x32 x Cert.KernelIdeal.Gen.shapeCasts_S8x2048x1_S512x32 (ix2 (row b t) d) = x (ix3 b ⟨t.val * 32 + d.val, by omega⟩ 0) := by
  have h : (b.val * 64 + t.val) % 64 = t.val := by omega
  pointwise [row]
  simp only [h]

theorem emb_rows (x0 : FVec Ideal Cert.KernelIdeal.S8x2048x1 .f32) (x1 x2 : FVec Ideal Cert.KernelIdeal.S32x1024 .f32) :
    Rows (Cert.ReferenceIdeal.Model.emb (Cert.ReferenceIdeal.Model.patchDot (Cert.ReferenceIdeal.Model.patches x0) x2) (Cert.ReferenceIdeal.Model.patchDot (Cert.ReferenceIdeal.Model.patches x0) x1))
      (Cert.KernelIdeal.Model.emb (F := Ideal) (shapeCast Cert.KernelIdeal.S512x32 x0 Cert.KernelIdeal.Gen.shapeCasts_S8x2048x1_S512x32) x1 x2) := by
  intro b t d
  rw [Cert.ReferenceIdeal.Model.emb_at, Cert.ReferenceIdeal.Model.patchDot_at, Cert.ReferenceIdeal.Model.patchDot_at, Cert.KernelIdeal.Model.emb_at, zero_sub]
  simp only [Cert.ReferenceIdeal.Model.patches_at, patch_at]

/-! ## A layer -/

/-- A layer's rows after the second norm, in the reference. -/
def refRows (h : FVec Ideal Cert.ReferenceIdeal.S8x64x1024 .f32) (a : FVec Ideal Cert.ReferenceIdeal.S1024 .f32) (q : FVec Ideal Cert.ReferenceIdeal.S1024x3072 .f32)
    (o : FVec Ideal Cert.ReferenceIdeal.S1024x1024 .f32) (b : FVec Ideal Cert.ReferenceIdeal.S1024 .f32) : FVec Ideal Cert.ReferenceIdeal.S8x64x1024 .f32 :=
  Cert.ReferenceIdeal.Model.norm (Cert.ReferenceIdeal.Model.attn
    (Cert.ReferenceIdeal.Model.expRow (Cert.ReferenceIdeal.Model.scores (Cert.ReferenceIdeal.Model.proj (Cert.ReferenceIdeal.Model.norm h a) q)))
    (Cert.ReferenceIdeal.Model.proj (Cert.ReferenceIdeal.Model.norm h a) q) (Cert.ReferenceIdeal.Model.norm h a) o) b

/-- The router's probabilities, in the reference. -/
def refProbs (r : FVec Ideal Cert.ReferenceIdeal.S8x64x1024 .f32) (w : FVec Ideal Cert.ReferenceIdeal.S1024x8 .f32) : FVec Ideal Cert.ReferenceIdeal.S512x8 .f32 :=
  Cert.ReferenceIdeal.Model.probs (Cert.ReferenceIdeal.Model.exp8 (Cert.ReferenceIdeal.Model.logits (Cert.ReferenceIdeal.Model.flat r) w))

section Layer

variable (l : Fin 2) (h3 : FVec Ideal Cert.ReferenceIdeal.S8x64x1024 .f32) (h2 : FVec Ideal Cert.KernelIdeal.S512x1024 .f32)
variable (x3 x4 : FVec Ideal Cert.KernelIdeal.S2x1024 .f32) (x5 : FVec Ideal Cert.KernelIdeal.S2x1024x8 .f32) (q : FVec Ideal Cert.KernelIdeal.S2x1024x3072 .f32)
variable (o : FVec Ideal Cert.KernelIdeal.S2x1024x1024 .f32) (w1 w2 : FVec Ideal Cert.KernelIdeal.S2x8x1024x1024 .f32)
variable (r3 r4 : FVec Ideal Cert.ReferenceIdeal.S1024 .f32) (r5 : FVec Ideal Cert.ReferenceIdeal.S1024x8 .f32) (rq : FVec Ideal Cert.ReferenceIdeal.S1024x3072 .f32)
variable (ro : FVec Ideal Cert.ReferenceIdeal.S1024x1024 .f32) (u1 u2 : FVec Ideal Cert.ReferenceIdeal.S8x1024x1024 .f32)

theorem rows_rows (hh : Rows h3 h2) (f3 : AllReal x3) (fq : AllReal q)
    (e3 : ∀ d, r3 (ix1 d) = x3 (ix2 l d)) (e4 : ∀ d, r4 (ix1 d) = x4 (ix2 l d)) (eq : ∀ k d, rq (ix2 k d) = q (ix3 l k d)) (eo : ∀ k d, ro (ix2 k d) = o (ix3 l k d)) :
    Rows (refRows h3 r3 rq ro r4) (Cert.KernelIdeal.Model.rows l h2 x3 x4 q o) := by
  have hn := rms_rows h3 h2 hh r3 (Cert.KernelIdeal.Model.ln (F := Ideal) l x3) e3
  have hnr := rms_real h2 (Cert.KernelIdeal.Model.ln (F := Ideal) l x3) (fun d => f3 (ix2 l d))
  have hp := proj_rows _ _ hn rq (Cert.KernelIdeal.Model.wqkv (F := Ideal) l q) eq
  have hpr := proj_real _ hnr (Cert.KernelIdeal.Model.wqkv (F := Ideal) l q) (fun k d => fq (ix3 l k d))
  have ha := attn_rows _ _ hp hpr _ _ hn ro (Cert.KernelIdeal.Model.wo (F := Ideal) l o) eo
  exact rms_rows _ _ ha r4 (Cert.KernelIdeal.Model.ln (F := Ideal) l x4) e4

theorem rows_real (f4 : AllReal x4) : ∀ n d, IsReal (Cert.KernelIdeal.Model.rows l h2 x3 x4 q o (ix2 n d)) :=
  rms_real (Cert.KernelIdeal.Model.attn _ _ _ _) (Cert.KernelIdeal.Model.ln (F := Ideal) l x4) (fun d => f4 (ix2 l d))

theorem probs_eq (hh : Rows h3 h2) (e5 : ∀ k d, r5 (ix2 k d) = x5 (ix3 l k d)) :
    refProbs h3 r5 = Cert.KernelIdeal.Model.probs h2 (Cert.KernelIdeal.Model.wr (F := Ideal) l x5) := by
  have hl : ∀ n e, Cert.ReferenceIdeal.Model.logits (Cert.ReferenceIdeal.Model.flat h3) r5 (ix2 n e) = Cert.KernelIdeal.Model.logits h2 (Cert.KernelIdeal.Model.wr (F := Ideal) l x5) (ix2 n e) := fun n e => by
    rw [Cert.ReferenceIdeal.Model.logits_at, Cert.KernelIdeal.Model.logits_at]
    exact Finset.sum_congr rfl fun k _ => congrArg₂ (· * ·) (flat_rows h3 h2 hh n k) (e5 k e)
  funext j
  idx_vars j
  unfold refProbs Cert.KernelIdeal.Model.probs
  rw [Cert.ReferenceIdeal.Model.probs_at, Cert.KernelIdeal.Model.softmax8_at]
  simp only [Cert.ReferenceIdeal.Model.exp8_at, hl]

theorem probs_nonneg (hr : ∀ n d, IsReal (h2 (ix2 n d))) (f5 : AllReal x5) : ∀ n e, 0 ≤ Cert.KernelIdeal.Model.probs h2 (Cert.KernelIdeal.Model.wr (F := Ideal) l x5) (ix2 n e) := by
  intro n e
  have hl : ∀ e, IsReal (Cert.KernelIdeal.Model.logits h2 (Cert.KernelIdeal.Model.wr (F := Ideal) l x5) (ix2 n e)) := fun e => by
    rw [Cert.KernelIdeal.Model.logits_at]
    exact IsReal.sum _ _ fun k _ => (hr n k).mul (f5 (ix3 l k e))
  unfold Cert.KernelIdeal.Model.probs
  rw [Cert.KernelIdeal.Model.softmax8_at]
  exact div_nonneg (exp_nonneg _) (Finset.sum_nonneg fun _ _ => exp_nonneg _)
    (sum_exp_ne_zero (fun e => Cert.KernelIdeal.Model.logits h2 (Cert.KernelIdeal.Model.wr (F := Ideal) l x5) (ix2 n e)) (fun k => (hl k).ne_top) 0 (hl 0).ne_bot)

/-- A layer: its rows agree, and the router's probabilities are the same and not negative. -/
theorem layer_rows (hh : Rows h3 h2) (f3 : AllReal x3) (f4 : AllReal x4) (f5 : AllReal x5) (fq : AllReal q)
    (e3 : ∀ d, r3 (ix1 d) = x3 (ix2 l d)) (e4 : ∀ d, r4 (ix1 d) = x4 (ix2 l d)) (e5 : ∀ k d, r5 (ix2 k d) = x5 (ix3 l k d))
    (eq : ∀ k d, rq (ix2 k d) = q (ix3 l k d)) (eo : ∀ k d, ro (ix2 k d) = o (ix3 l k d))
    (eu1 : ∀ e k d, u1 (ix3 e k d) = w1 (ix4 l e k d)) (eu2 : ∀ e k d, u2 (ix3 e k d) = w2 (ix4 l e k d)) :
    refProbs (refRows h3 r3 rq ro r4) r5 = Cert.KernelIdeal.Model.probs (Cert.KernelIdeal.Model.rows l h2 x3 x4 q o) (Cert.KernelIdeal.Model.wr (F := Ideal) l x5)
    ∧ (∀ n e, 0 ≤ Cert.KernelIdeal.Model.probs (Cert.KernelIdeal.Model.rows l h2 x3 x4 q o) (Cert.KernelIdeal.Model.wr (F := Ideal) l x5) (ix2 n e))
    ∧ Rows (refNext (refRows h3 r3 rq ro r4) (refProbs (refRows h3 r3 rq ro r4) r5) u1 u2) (Cert.KernelIdeal.Model.layer l h2 x3 x4 x5 q o w1 w2) := by
  have hr := rows_rows l h3 h2 x3 x4 q o r3 r4 rq ro hh f3 fq e3 e4 eq eo
  have hR := rows_real l h2 x3 x4 q o f4
  have hp := probs_eq l _ _ x5 r5 hr e5
  have hn := probs_nonneg l _ x5 hR f5
  refine ⟨hp, hn, ?_⟩
  rw [hp]
  exact next_rows (refRows h3 r3 rq ro r4) (Cert.KernelIdeal.Model.rows l h2 x3 x4 q o) hr hR
    (Cert.KernelIdeal.Model.probs (Cert.KernelIdeal.Model.rows l h2 x3 x4 q o) (Cert.KernelIdeal.Model.wr (F := Ideal) l x5)) hn u1 u2 (Cert.KernelIdeal.Model.wx (F := Ideal) l w1) (Cert.KernelIdeal.Model.wx (F := Ideal) l w2) eu1 eu2

end Layer

/-! ## The heads and the counts -/

section Heads
open Cert.ReferenceIdeal Cert.ReferenceIdeal.Gen

theorem head1_at (h3 : FVec Ideal S8x64x1024 .f32) (w : FVec Ideal S1024x1 .f32) (b : FVec Ideal S1 .f32) (i : Fin 8) (t : Fin 64) :
    addf (Host.dotGeneral dot_S8x64x1024_S1024x1_S8x64x1_2_0_01_1_n_n none h3 w) (broadcastInDim S8x64x1 ![0, 1, 2] bcast_S1x1x1_S8x64x1_0_1_2 (broadcastInDim S1x1x1 ![2] bcast_S1_S1x1x1_2 b)) (ix3 i t 0)
      = (∑ k, h3 (ix3 i t k) * w (ix2 k 0)) + b (ix1 0) := by
  pointwise []

theorem head8_at (h3 : FVec Ideal S8x64x1024 .f32) (w : FVec Ideal S1024x8 .f32) (b : FVec Ideal S8 .f32) (i : Fin 8) (t : Fin 64) (e : Fin 8) :
    addf (Host.dotGeneral dot_S8x64x1024_S1024x8_S8x64x8_2_0_01_1_n_n none h3 w) (broadcastInDim S8x64x8 ![0, 1, 2] bcast_S1x1x8_S8x64x8_0_1_2 (broadcastInDim S1x1x8 ![2] bcast_S8_S1x1x8_2 b)) (ix3 i t e)
      = (∑ k, h3 (ix3 i t k) * w (ix2 k e)) + b (ix1 e) := by
  pointwise []

theorem head32_at (h3 : FVec Ideal S8x64x1024 .f32) (w : FVec Ideal S1024x32 .f32) (b : FVec Ideal S32 .f32) (i : Fin 8) (t : Fin 64) (e : Fin 32) :
    addf (Host.dotGeneral dot_S8x64x1024_S1024x32_S8x64x32_2_0_01_1_n_n none h3 w) (broadcastInDim S8x64x32 ![0, 1, 2] bcast_S1x1x32_S8x64x32_0_1_2 (broadcastInDim S1x1x32 ![2] bcast_S32_S1x1x32_2 b)) (ix3 i t e)
      = (∑ k, h3 (ix3 i t k) * w (ix2 k e)) + b (ix1 e) := by
  pointwise []

theorem head64_at (h3 : FVec Ideal S8x64x1024 .f32) (w : FVec Ideal S1024x64 .f32) (b : FVec Ideal S64 .f32) (i : Fin 8) (t : Fin 64) (e : Fin 64) :
    addf (Host.dotGeneral dot_S8x64x1024_S1024x64_S8x64x64_2_0_01_1_n_n none h3 w) (broadcastInDim S8x64x64 ![0, 1, 2] bcast_S1x1x64_S8x64x64_0_1_2 (broadcastInDim S1x1x64 ![2] bcast_S64_S1x1x64_2 b)) (ix3 i t e)
      = (∑ k, h3 (ix3 i t k) * w (ix2 k e)) + b (ix1 e) := by
  pointwise []

/-- The sum over the first and the last axis. -/
theorem sum_ends (p : FVec Ideal S512x8x160 .f32) (e : Fin 8) :
    Ideal.hostReduceAdd reducesTo_S512x8x160_S8_d0_2 p 0 (ix1 e) = ∑ n : Fin 512, ∑ c : Fin 160, p (ix3 n e c) := by
  have hd : ∀ i : S512x8x160.Idx, (reducesTo_S512x8x160_S8_d0_2.drop i 0).val = (i 1).val := fun i =>
    reducesTo_S512x8x160_S8_d0_2.drop_apply_val_of_eq i 0 1
  refine (zero_add _).trans ((Finset.sum_bij' (fun i _ => ((i 0, i 2) : Fin 512 × Fin 160)) (fun q _ => (ix3 q.1 e q.2 : S512x8x160.Idx)) ?_ ?_ ?_ ?_ ?_).trans (Finset.sum_product' Finset.univ Finset.univ (fun n c => p (ix3 n e c))))
  · exact fun _ _ => Finset.mem_univ _
  · intro q _
    rw [Finset.mem_filter]
    refine ⟨Finset.mem_univ _, funext fun b => ?_⟩
    obtain rfl : b = 0 := Subsingleton.elim (α := Fin 1) _ _
    exact Fin.ext (hd _)
  · intro i hi
    have he : i 1 = e := Fin.ext ((hd i).symm.trans (congrArg (fun j : S8.Idx => (j 0).val) (Finset.mem_filter.1 hi).2))
    idx_vars i
    exact congrArg (fun z => (ix3 i0 z i2 : S512x8x160.Idx)) he.symm
  · exact fun _ _ => rfl
  · intro i hi
    have he : i 1 = e := Fin.ext ((hd i).symm.trans (congrArg (fun j : S8.Idx => (j 0).val) (Finset.mem_filter.1 hi).2))
    idx_vars i
    exact congrArg (fun z => p (ix3 i0 z i2 : S512x8x160.Idx)) he

theorem counted_at (p q : FVec Ideal S512x8x160 .f32) (e : Fin 8) :
    addf (addf (broadcastInDim S8 ![] bcast_S_S8 (constant S_ .f32 0x00000000#32)) (Host.reduceAdd p (constant S_ .f32 0x00000000#32) reducesTo_S512x8x160_S8_d0_2 h_S_)) (Host.reduceAdd q (constant S_ .f32 0x00000000#32) reducesTo_S512x8x160_S8_d0_2 h_S_) (ix1 e)
      = (∑ n : Fin 512, ∑ c : Fin 160, p (ix3 n e c)) + ∑ n : Fin 512, ∑ c : Fin 160, q (ix3 n e c) := by
  pointwise []
  rw [sum_ends, sum_ends]

variable (h3 : FVec Ideal S8x64x1024 .f32) (h2 : FVec Ideal Cert.KernelIdeal.S512x1024 .f32) (hh : Rows h3 h2)
include hh

theorem head1 (w : FVec Ideal S1024x1 .f32) (b : FVec Ideal S1 .f32) :
    addf (Host.dotGeneral dot_S8x64x1024_S1024x1_S8x64x1_2_0_01_1_n_n none h3 w) (broadcastInDim S8x64x1 ![0, 1, 2] bcast_S1x1x1_S8x64x1_0_1_2 (broadcastInDim S1x1x1 ![2] bcast_S1_S1x1x1_2 b))
      = Cert.KernelIdeal.Model.out1 (F := Ideal) h2 w b := by
  funext j
  idx_vars j
  obtain rfl : j2 = 0 := Subsingleton.elim _ _
  refine (head1_at h3 w b j0 j1).trans (Eq.trans ?_ (Cert.KernelIdeal.Model.out1_at h2 w b j0 j1).symm)
  simp only [hh j0 j1]

theorem head8 (w : FVec Ideal S1024x8 .f32) (b : FVec Ideal S8 .f32) :
    addf (Host.dotGeneral dot_S8x64x1024_S1024x8_S8x64x8_2_0_01_1_n_n none h3 w) (broadcastInDim S8x64x8 ![0, 1, 2] bcast_S1x1x8_S8x64x8_0_1_2 (broadcastInDim S1x1x8 ![2] bcast_S8_S1x1x8_2 b))
      = Cert.KernelIdeal.Model.out8 (F := Ideal) h2 w b := by
  funext j
  idx_vars j
  refine (head8_at h3 w b j0 j1 j2).trans (Eq.trans ?_ (Cert.KernelIdeal.Model.out8_at h2 w b j0 j1 j2).symm)
  simp only [hh j0 j1]

theorem head32 (w : FVec Ideal S1024x32 .f32) (b : FVec Ideal S32 .f32) :
    addf (Host.dotGeneral dot_S8x64x1024_S1024x32_S8x64x32_2_0_01_1_n_n none h3 w) (broadcastInDim S8x64x32 ![0, 1, 2] bcast_S1x1x32_S8x64x32_0_1_2 (broadcastInDim S1x1x32 ![2] bcast_S32_S1x1x32_2 b))
      = Cert.KernelIdeal.Gen.k0_pay1 (F := Ideal) h2 w b := by
  funext j
  idx_vars j
  refine (head32_at h3 w b j0 j1 j2).trans (Eq.trans ?_ (Cert.KernelIdeal.Model.out32_at h2 w b j0 j1 j2).symm)
  simp only [hh j0 j1]

theorem head64 (w : FVec Ideal S1024x64 .f32) (b : FVec Ideal S64 .f32) :
    addf (Host.dotGeneral dot_S8x64x1024_S1024x64_S8x64x64_2_0_01_1_n_n none h3 w) (broadcastInDim S8x64x64 ![0, 1, 2] bcast_S1x1x64_S8x64x64_0_1_2 (broadcastInDim S1x1x64 ![2] bcast_S64_S1x1x64_2 b))
      = Cert.KernelIdeal.Gen.k0_pay2 (F := Ideal) h2 w b := by
  funext j
  idx_vars j
  refine (head64_at h3 w b j0 j1 j2).trans (Eq.trans ?_ (Cert.KernelIdeal.Model.out64_at h2 w b j0 j1 j2).symm)
  simp only [hh j0 j1]

end Heads

end Cert.Same

end
-- ==== Proof.Chain.lean ====
/- The reference's chain of results against the kernel's, on equal arguments. -/
module

public import proofs.«01_k».proof.Proof.Layers
public import proofs.«01_k».proof.Proof.RModel

@[expose] public section

set_option maxRecDepth 16384

noncomputable section

set_option maxHeartbeats 1000000

namespace Cert.Same

open Cert.Reals
open Idealize.ShloMosaic Idealize.ShloMosaic.TcCoe Idealize.SL.Sem Idealize.ShloMosaic.StableHlo
open Cert.ReferenceIdeal Cert.ReferenceIdeal.Gen Cert.ReferenceIdeal.Value Cert.ReferenceIdeal.Model

section Chain

variable (V0 : Valuation Cert.ReferenceIdeal.τ Cert.ReferenceIdeal.sig (Elt Ideal))

theorem rows_v74 : res_main_v74 V0 = refRows (res_main_v6 V0) (shapeCast S1024 (extractStridedSlice S1x1024 ![0, 0] (V0 (Proc.devRef .tc main_arg3)) slices_S2x1024_S1x1024_0_0) shapeCasts_S1x1024_S1024) (shapeCast S1024x3072 (extractStridedSlice S1x1024x3072 ![0, 0, 0] (V0 (Proc.devRef .tc main_arg4)) slices_S2x1024x3072_S1x1024x3072_0_0_0) shapeCasts_S1x1024x3072_S1024x3072) (shapeCast S1024x1024 (extractStridedSlice S1x1024x1024 ![0, 0, 0] (V0 (Proc.devRef .tc main_arg5)) slices_S2x1024x1024_S1x1024x1024_0_0_0) shapeCasts_S1x1024x1024_S1024x1024) (shapeCast S1024 (extractStridedSlice S1x1024 ![0, 0] (V0 (Proc.devRef .tc main_arg6)) slices_S2x1024_S1x1024_0_0) shapeCasts_S1x1024_S1024) := by
  unfold refRows
  rw [norm_v74, attn_v59, expRow_v50, scores_v43, proj_v27, norm_v22]

theorem probs_of_v74 : res_main_v93 V0 = refProbs (res_main_v74 V0) (shapeCast S1024x8 (extractStridedSlice S1x1024x8 ![0, 0, 0] (V0 (Proc.devRef .tc main_arg7)) slices_S2x1024x8_S1x1024x8_0_0_0) shapeCasts_S1x1024x8_S1024x8) := by
  unfold refProbs
  rw [probs_v93, exp8_v89, logits_v82, flat_v75]

theorem next_of_v74 : res_main_v134 V0 = refNext (res_main_v74 V0) (res_main_v93 V0) (shapeCast S8x1024x1024 (extractStridedSlice S1x8x1024x1024 ![0, 0, 0, 0] (V0 (Proc.devRef .tc main_arg8)) slices_S2x8x1024x1024_S1x8x1024x1024_0_0_0_0) shapeCasts_S1x8x1024x1024_S8x1024x1024) (shapeCast S8x1024x1024 (extractStridedSlice S1x8x1024x1024 ![0, 0, 0, 0] (V0 (Proc.devRef .tc main_arg9)) slices_S2x8x1024x1024_S1x8x1024x1024_0_0_0_0) shapeCasts_S1x8x1024x1024_S8x1024x1024) := by
  unfold refNext
  rw [next_v134, dense1_v126, disp_v119, kept_v113, slots_v115, places_v106, queue_v102, hots_v100, gates_values, flat_v75]

theorem disp_of_v93 : res_main_v119 V0 = disp (hots (res_main_v93 V0)) (kept (places (queue (hots (res_main_v93 V0))))) (slots (places (queue (hots (res_main_v93 V0))))) := by
  rw [disp_v119, kept_v113, slots_v115, places_v106, queue_v102, hots_v100]

theorem rows_v201 : res_main_v201 V0 = refRows (res_main_v134 V0) (shapeCast S1024 (extractStridedSlice S1x1024 ![1, 0] (V0 (Proc.devRef .tc main_arg3)) slices_S2x1024_S1x1024_1_0) shapeCasts_S1x1024_S1024) (shapeCast S1024x3072 (extractStridedSlice S1x1024x3072 ![1, 0, 0] (V0 (Proc.devRef .tc main_arg4)) slices_S2x1024x3072_S1x1024x3072_1_0_0) shapeCasts_S1x1024x3072_S1024x3072) (shapeCast S1024x1024 (extractStridedSlice S1x1024x1024 ![1, 0, 0] (V0 (Proc.devRef .tc main_arg5)) slices_S2x1024x1024_S1x1024x1024_1_0_0) shapeCasts_S1x1024x1024_S1024x1024) (shapeCast S1024 (extractStridedSlice S1x1024 ![1, 0] (V0 (Proc.devRef .tc main_arg6)) slices_S2x1024_S1x1024_1_0) shapeCasts_S1x1024_S1024) := by
  unfold refRows
  rw [norm_v201, attn_v186, expRow_v177, scores_v170, proj_v154, norm_v149]

theorem probs_of_v201 : res_main_v220 V0 = refProbs (res_main_v201 V0) (shapeCast S1024x8 (extractStridedSlice S1x1024x8 ![1, 0, 0] (V0 (Proc.devRef .tc main_arg7)) slices_S2x1024x8_S1x1024x8_1_0_0) shapeCasts_S1x1024x8_S1024x8) := by
  unfold refProbs
  rw [probs_v220, exp8_v216, logits_v209, flat_v202]

theorem next_of_v201 : res_main_v261 V0 = refNext (res_main_v201 V0) (res_main_v220 V0) (shapeCast S8x1024x1024 (extractStridedSlice S1x8x1024x1024 ![1, 0, 0, 0] (V0 (Proc.devRef .tc main_arg8)) slices_S2x8x1024x1024_S1x8x1024x1024_1_0_0_0) shapeCasts_S1x8x1024x1024_S8x1024x1024) (shapeCast S8x1024x1024 (extractStridedSlice S1x8x1024x1024 ![1, 0, 0, 0] (V0 (Proc.devRef .tc main_arg9)) slices_S2x8x1024x1024_S1x8x1024x1024_1_0_0_0) shapeCasts_S1x8x1024x1024_S8x1024x1024) := by
  unfold refNext
  rw [next_v261, dense1_v253, disp_v246, kept_v240, slots_v242, places_v233, queue_v229, hots_v227, gates_values_34, flat_v202]

theorem disp_of_v220 : res_main_v246 V0 = disp (hots (res_main_v220 V0)) (kept (places (queue (hots (res_main_v220 V0))))) (slots (places (queue (hots (res_main_v220 V0))))) := by
  rw [disp_v246, kept_v240, slots_v242, places_v233, queue_v229, hots_v227]

variable (x0 : FVec Ideal S8x2048x1 .f32) (x1 : FVec Ideal S32x1024 .f32) (x2 : FVec Ideal S32x1024 .f32) (x3 : FVec Ideal S2x1024 .f32) (x4 : FVec Ideal S2x1024x3072 .f32) (x5 : FVec Ideal S2x1024x1024 .f32) (x6 : FVec Ideal S2x1024 .f32) (x7 : FVec Ideal S2x1024x8 .f32) (x8 : FVec Ideal S2x8x1024x1024 .f32) (x9 : FVec Ideal S2x8x1024x1024 .f32)
variable (h0 : (V0 (Proc.devRef .tc main_arg0) : FVec Ideal S8x2048x1 .f32) = x0)
variable (h1 : (V0 (Proc.devRef .tc main_arg1) : FVec Ideal S32x1024 .f32) = x1)
variable (h2 : (V0 (Proc.devRef .tc main_arg2) : FVec Ideal S32x1024 .f32) = x2)
variable (h3 : (V0 (Proc.devRef .tc main_arg3) : FVec Ideal S2x1024 .f32) = x3)
variable (h4 : (V0 (Proc.devRef .tc main_arg4) : FVec Ideal S2x1024x3072 .f32) = x4)
variable (h5 : (V0 (Proc.devRef .tc main_arg5) : FVec Ideal S2x1024x1024 .f32) = x5)
variable (h6 : (V0 (Proc.devRef .tc main_arg6) : FVec Ideal S2x1024 .f32) = x6)
variable (h7 : (V0 (Proc.devRef .tc main_arg7) : FVec Ideal S2x1024x8 .f32) = x7)
variable (h8 : (V0 (Proc.devRef .tc main_arg8) : FVec Ideal S2x8x1024x1024 .f32) = x8)
variable (h9 : (V0 (Proc.devRef .tc main_arg9) : FVec Ideal S2x8x1024x1024 .f32) = x9)

/-- The first layer's input in the kernel. -/
def first : FVec Ideal Cert.KernelIdeal.S512x1024 .f32 := Cert.KernelIdeal.Model.emb (F := Ideal) (shapeCast Cert.KernelIdeal.S512x32 x0 Cert.KernelIdeal.Gen.shapeCasts_S8x2048x1_S512x32) x1 x2

/-- The second layer's input in the kernel. -/
def second : FVec Ideal Cert.KernelIdeal.S512x1024 .f32 := Cert.KernelIdeal.Model.layer 0 (first x0 x1 x2) x3 x6 x7 x4 x5 x8 x9

include h0 h1 h2 in
theorem rows_v6 : Rows (res_main_v6 V0) (first x0 x1 x2) := by
  rw [emb_v6, h0, h1, h2]
  exact emb_rows x0 x1 x2

include h0 h1 h2 h3 h4 h5 h6 h7 h8 h9 in
theorem layer_0 (f3 : AllReal x3) (f4 : AllReal x4) (f6 : AllReal x6) (f7 : AllReal x7) :
    res_main_v93 V0 = Cert.KernelIdeal.Model.probs (Cert.KernelIdeal.Model.rows 0 (first x0 x1 x2) x3 x6 x4 x5) (Cert.KernelIdeal.Model.wr (F := Ideal) 0 x7)
    ∧ (∀ n e, 0 ≤ Cert.KernelIdeal.Model.probs (Cert.KernelIdeal.Model.rows 0 (first x0 x1 x2) x3 x6 x4 x5) (Cert.KernelIdeal.Model.wr (F := Ideal) 0 x7) (ix2 n e))
    ∧ Rows (res_main_v134 V0) (Cert.KernelIdeal.Model.layer 0 (first x0 x1 x2) x3 x6 x7 x4 x5 x8 x9) := by
  have H := layer_rows 0 (res_main_v6 V0) (first x0 x1 x2) x3 x6 x7 x4 x5 x8 x9 _ _ _ _ _ _ _ (rows_v6 V0 x0 x1 x2 h0 h1 h2) f3 f6 f7 f4
    (ln_0 x3) (ln_0 x6) (wr_0 x7) (wqkv_0 x4) (wo_0 x5) (wx_0 x8) (wx_0 x9)
  rw [next_of_v74, probs_of_v74, rows_v74, h3, h4, h5, h6, h7, h8, h9]
  exact H

include h0 h1 h2 h3 h4 h5 h6 h7 h8 h9 in
theorem layer_1 (f3 : AllReal x3) (f4 : AllReal x4) (f6 : AllReal x6) (f7 : AllReal x7) :
    res_main_v220 V0 = Cert.KernelIdeal.Model.probs (Cert.KernelIdeal.Model.rows 1 (second x0 x1 x2 x3 x4 x5 x6 x7 x8 x9) x3 x6 x4 x5) (Cert.KernelIdeal.Model.wr (F := Ideal) 1 x7)
    ∧ (∀ n e, 0 ≤ Cert.KernelIdeal.Model.probs (Cert.KernelIdeal.Model.rows 1 (second x0 x1 x2 x3 x4 x5 x6 x7 x8 x9) x3 x6 x4 x5) (Cert.KernelIdeal.Model.wr (F := Ideal) 1 x7) (ix2 n e))
    ∧ Rows (res_main_v261 V0) (Cert.KernelIdeal.Model.layer 1 (second x0 x1 x2 x3 x4 x5 x6 x7 x8 x9) x3 x6 x7 x4 x5 x8 x9) := by
  have H := layer_rows 1 (res_main_v134 V0) (second x0 x1 x2 x3 x4 x5 x6 x7 x8 x9) x3 x6 x7 x4 x5 x8 x9 _ _ _ _ _ _ _ (layer_0 V0 x0 x1 x2 x3 x4 x5 x6 x7 x8 x9 h0 h1 h2 h3 h4 h5 h6 h7 h8 h9 f3 f4 f6 f7).2.2 f3 f6 f7 f4
    (ln_1 x3) (ln_1 x6) (wr_1 x7) (wqkv_1 x4) (wo_1 x5) (wx_1 x8) (wx_1 x9)
  rw [next_of_v201, probs_of_v201, rows_v201, h3, h4, h5, h6, h7, h8, h9]
  exact H

include h0 h1 h2 h3 h4 h5 h6 h7 h8 h9 in
/-- The counts of the rows each expert was given. -/
theorem stats_eq (f3 : AllReal x3) (f4 : AllReal x4) (f6 : AllReal x6) (f7 : AllReal x7) :
    addf (addf (broadcastInDim S8 ![] bcast_S_S8 (constant S_ .f32 0x00000000#32)) (Host.reduceAdd (res_main_v119 V0) (constant S_ .f32 0x00000000#32) reducesTo_S512x8x160_S8_d0_2 h_S_)) (Host.reduceAdd (res_main_v246 V0) (constant S_ .f32 0x00000000#32) reducesTo_S512x8x160_S8_d0_2 h_S_)
      = Cert.KernelIdeal.Model.stats (F := Ideal) (shapeCast Cert.KernelIdeal.S512x32 x0 Cert.KernelIdeal.Gen.shapeCasts_S8x2048x1_S512x32) x1 x2 x3 x6 x7 x4 x5 x8 x9 := by
  have a := layer_0 V0 x0 x1 x2 x3 x4 x5 x6 x7 x8 x9 h0 h1 h2 h3 h4 h5 h6 h7 h8 h9 f3 f4 f6 f7
  have b := layer_1 V0 x0 x1 x2 x3 x4 x5 x6 x7 x8 x9 h0 h1 h2 h3 h4 h5 h6 h7 h8 h9 f3 f4 f6 f7
  rw [disp_of_v93, disp_of_v220, a.1, b.1]
  funext j
  idx_vars j
  refine (counted_at _ _ j0).trans (Eq.trans ?_ (Cert.KernelIdeal.Model.total_at _ _ j0).symm)
  exact congrArg₂ (· + ·) (counts_at _ a.2.1 j0).symm (counts_at _ b.2.1 j0).symm

end Chain

end Cert.Same

end
-- ==== Proof.Finite.lean ====
/- The precondition, read at an element. -/
module

public import proofs.«01_k».proof.Proof.Attend
public import proofs.«01_k».proof.Pre_finite_weights

@[expose] public section

set_option maxRecDepth 16384

noncomputable section

namespace Cert.Same

open Cert.Reals
open Idealize.ShloMosaic

theorem inf_eq : Ideal.ofBits .f32 0x7F800000#32 = ⊤ := by
  simp [Ideal.ofBits, Ideal.ieee]

/-- A magnitude below infinity is a real number's. -/
theorem real_of_lt (x : EReal) (h : BitVec.ofBool (decide (max x (-x) < Ideal.ofBits .f32 0x7F800000#32)) = 1#1) : IsReal x := by
  rw [inf_eq] at h
  have hx : max x (-x) < ⊤ := by
    by_contra hn
    rw [decide_eq_false hn] at h
    exact absurd h (by decide)
  refine IsReal.of_ne ?_ ?_
  · rintro rfl
    exact absurd hx (by simp)
  · rintro rfl
    exact absurd hx (by simp)

theorem allReal (s : Shape) (hb : Cert.Pre_finite_weights.S_.BroadcastsInDim s (![] : Fin 0 → Fin s.rank)) (x : FVec Ideal s .f32)
    (h : cmpf .olt (Host.absf x) (broadcastInDim s ![] hb (constant Cert.Pre_finite_weights.S_ .f32 0x7F800000#32)) = fun _ => 1#1) : AllReal x :=
  fun i => real_of_lt (x i) (congrFun h i)

end Cert.Same

end
-- ==== Proof.lean ====
/- The claim: the programs' runs, and the equality of their results. -/
module

public import proofs.«01_k».proof.Defs
public import proofs.«01_k».proof.Proof.KernelFrame
public import proofs.«01_k».proof.Proof.KFrame
public import proofs.«01_k».proof.Proof.KFinal
public import proofs.«01_k».proof.Proof.Chain
public import proofs.«01_k».proof.Proof.Finite

@[expose] public section

set_option maxRecDepth 16384

noncomputable section

namespace Cert.Proof

open Idealize.ShloMosaic Idealize.SL.Sem

theorem weightFacts : Cert.Pre_finite_weights.Facts where
  bcast_S_S2x1024 := by decide
  bcast_S_S2x1024x3072 := by decide
  bcast_S_S2x1024x8 := by decide

theorem quiescent_reference : Cert.quiescent_ReferenceIdeal (hReferenceIdeal := Cert.ReferenceIdeal.Gen.facts) := by
  intro m g _
  exact (θ_run _ _ _).mono (fun r h => ⟨fun c => (h c).2.2.2.2.2, sem_eq_zero_of_no_sems (by decide) r.2⟩) (Cert.ReferenceIdeal.Value.run m g)

set_option maxHeartbeats 1000000 in
theorem algebraic : Cert.algebraic_KernelIdeal_ReferenceIdeal_pre_finite_weights (hKernelIdeal := Cert.KernelIdeal.Gen.facts) (hReferenceIdeal := Cert.ReferenceIdeal.Gen.facts) (hPre_finite_weights := weightFacts) := by
  intro m g m' g' hpre hagree
  refine ⟨_, _, _, _, _, Cert.KernelIdeal.Body.value_run m g, ?_⟩
  refine (θ_run _ _ _).mono (fun r h c => ?_) (Cert.ReferenceIdeal.Value.run m' g')
  obtain ⟨h0, h1, h2, h3, h4, h5, h6, h7, h8, h9, h10, h11, h12, h13, h14, h15, h16, h17⟩ := hagree c
  obtain ⟨p3, p4, p6, p7⟩ := hpre c
  have f3 := Cert.Same.allReal _ _ _ p3
  have f4 := Cert.Same.allReal _ _ _ p4
  have f6 := Cert.Same.allReal _ _ _ p6
  have f7 := Cert.Same.allReal _ _ _ p7
  obtain ⟨r0, r1, r2, r3, r4, ra⟩ := h c
  have hs := Cert.Same.stats_eq (StableHlo.launchContents m' c) _ _ _ _ _ _ _ _ _ _ h0 h1 h2 h3 h4 h5 h6 h7 h8 h9 f3 f4 f6 f7
  have hl := (Cert.Same.layer_1 (StableHlo.launchContents m' c) _ _ _ _ _ _ _ _ _ _ h0 h1 h2 h3 h4 h5 h6 h7 h8 h9 f3 f4 f6 f7).2.2
  refine ⟨r0.trans ?_, r1.trans ?_, r2.trans ?_, r3.trans ?_, r4.trans hs, ra⟩
  · exact (Cert.Same.head1 _ _ hl _ _).trans (congrArg₂ (Cert.KernelIdeal.Model.out1 (F := Ideal) _) h10 h11)
  · exact (Cert.Same.head8 _ _ hl _ _).trans (congrArg₂ (Cert.KernelIdeal.Model.out8 (F := Ideal) _) h12 h13)
  · exact (Cert.Same.head32 _ _ hl _ _).trans (congrArg₂ (Cert.KernelIdeal.Gen.k0_pay1 (F := Ideal) _) h14 h15)
  · exact (Cert.Same.head64 _ _ hl _ _).trans (congrArg₂ (Cert.KernelIdeal.Gen.k0_pay2 (F := Ideal) _) h16 h17)

theorem claim : Cert.Claim :=
  ⟨Cert.Kernel.Gen.facts, Cert.KernelIdeal.Gen.facts, Cert.ReferenceIdeal.Gen.facts, weightFacts,
    fun m g _ => Cert.Kernel.Body.frame m g, fun m g _ => Cert.KernelIdeal.Body.frame m g, fun m g _ => Cert.KernelIdeal.Body.frame m g,
    quiescent_reference, fun m g _ => quiescent_reference m g trivial,
    IdealRules.named_const.statement Cert.KernelIdeal.κ "mask" .f32 0xCE6E6B28#32 ⊥ rfl, algebraic⟩

end Cert.Proof

end
